-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Reference [hPre_ids_in_range : Cert.Pre_ids_in_range.Facts] (m : (ℓ : Loc Cert.Reference.nD Cert.Reference.τ Cert.Reference.sig) → Buf (Elt Bits) ℓ) : Prop :=
  ∀ c : Dev Cert.Reference.nD,
    (Cert.Pre_ids_in_range.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_ids_in_range [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] [hPre_ids_in_range : Cert.Pre_ids_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def bitexact_Kernel_Reference [hKernel : Cert.Kernel.Facts] [hReference : Cert.Reference.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v1)) (v1 : (c : Dev Cert.Kernel.nD) → Buf (Elt Bits) ((c.tc : Thread Cert.Kernel.nD Cert.Kernel.τ).loc Cert.Kernel.main_v3)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v1) = v0 c
          ∧ r.2.mem ((c.tc : Thread Cert.Kernel.nD Cert.Kernel.τ).loc Cert.Kernel.main_v3) = v1 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_v1) = v1 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def Claim : Prop :=
  ∃ (hKernel : Cert.Kernel.Facts) (hKernelIdeal : Cert.KernelIdeal.Facts) (hReferenceIdeal : Cert.ReferenceIdeal.Facts) (hReference : Cert.Reference.Facts) (hPre_ids_in_range : Cert.Pre_ids_in_range.Facts),
    quiescent_Kernel (hKernel := hKernel) (hPre_ids_in_range := hPre_ids_in_range)
    ∧ quiescent_KernelIdeal (hKernelIdeal := hKernelIdeal) (hPre_ids_in_range := hPre_ids_in_range)
    ∧ quiescent_ReferenceIdeal (hReferenceIdeal := hReferenceIdeal)
    ∧ quiescent_ReferenceIdeal_pre_ids_in_range (hReferenceIdeal := hReferenceIdeal) (hPre_ids_in_range := hPre_ids_in_range)
    ∧ quiescent_Reference (hReference := hReference) (hPre_ids_in_range := hPre_ids_in_range)
    ∧ preserves_Kernel_KernelIdeal
    ∧ algebraic_KernelIdeal_ReferenceIdeal (hKernelIdeal := hKernelIdeal) (hReferenceIdeal := hReferenceIdeal) (hPre_ids_in_range := hPre_ids_in_range)
    ∧ bitexact_Kernel_Reference (hKernel := hKernel) (hReference := hReference) (hPre_ids_in_range := hPre_ids_in_range)
-- ==== Pre_ids_in_range.lean ====
abbrev S1000x32x768 : Shape := ⟨3, ![1000, 32, 768]⟩
abbrev S1000x32 : Shape := ⟨2, ![1000, 32]⟩
abbrev S4096 : Shape := ⟨1, ![4096]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel

variable [Facts]

def fn {F : FTy → Type} [FloatOps F] (main_arg0 : FVec F S1000x32x768 .f32) (main_arg1 : IVec S1000x32 32) (main_arg2 : IVec S4096 32) : IVec S_ 1 :=
  let main_c : IVec S_ 32 := constantI S_ 32 0#32
  let main_v0 : IVec S4096 32 := broadcastInDim S4096 ![] bcast_S_S4096 main_c
  let main_v1 : IVec S4096 1 := cmpi .sge main_arg2 main_v0
  let main_c_0 : IVec S_ 32 := constantI S_ 32 1000#32
  let main_v2 : IVec S4096 32 := broadcastInDim S4096 ![] bcast_S_S4096 main_c_0
  let main_v3 : IVec S4096 1 := cmpi .slt main_arg2 main_v2
  let main_v4 : IVec S4096 1 := andi main_v1 main_v3
  let main_c_1 : IVec S_ 1 := constantI S_ 1 1#1
  let main_v5 : IVec S_ 1 := (fun x v => Host.reduce IntOp.andi x v reducesTo_S4096_S_d0 h_S_) main_v4 main_c_1
  main_v5
-- ==== Kernel.lean ====
abbrev S1000x32x768 : Shape := ⟨3, ![1000, 32, 768]⟩
abbrev S1000x32 : Shape := ⟨2, ![1000, 32]⟩
abbrev S4096 : Shape := ⟨1, ![4096]⟩
abbrev S_ : Shape := ⟨0, ![]⟩
abbrev S1000x128 : Shape := ⟨2, ![1000, 128]⟩
abbrev S4096x32x768 : Shape := ⟨3, ![4096, 32, 768]⟩
abbrev S256 : Shape := ⟨1, ![256]⟩
abbrev S16 : Shape := ⟨1, ![16]⟩
abbrev S1 : Shape := ⟨1, ![1]⟩
abbrev S1x32x768 : Shape := ⟨3, ![1, 32, 768]⟩
abbrev S4096x128 : Shape := ⟨2, ![4096, 128]⟩
abbrev S128 : Shape := ⟨1, ![128]⟩
abbrev S32x128 : Shape := ⟨2, ![32, 128]⟩
abbrev S32 : Shape := ⟨1, ![32]⟩
abbrev S4096x32 : Shape := ⟨2, ![4096, 32]⟩

abbrev nBuf : Table → Nat
  | .hbm => 9
  | .local .scScalar .smem => 1
  | .local .scVector .vmem => 2
  | _ => 0

abbrev bufTy : (tb : Table) → Fin (nBuf tb) → BufTy
  | .hbm, ⟨0, _⟩ => ⟨S1000x32x768, .f32⟩
  | .hbm, ⟨1, _⟩ => ⟨S1000x32, .i32⟩
  | .hbm, ⟨2, _⟩ => ⟨S4096, .i32⟩
  | .hbm, ⟨3, _⟩ => ⟨S_, .i32⟩
  | .hbm, ⟨4, _⟩ => ⟨S_, .i32⟩
  | .hbm, ⟨5, _⟩ => ⟨S1000x128, .i32⟩
  | .hbm, ⟨6, _⟩ => ⟨S4096x32x768, .f32⟩
  | .hbm, ⟨7, _⟩ => ⟨S4096x128, .i32⟩
  | .hbm, ⟨8, _⟩ => ⟨S4096x32, .i32⟩
  | .local .scScalar .smem, ⟨0, _⟩ => ⟨S256, .i32⟩
  | .local .scVector .vmem, ⟨0, _⟩ => ⟨S128, .i32⟩
  | .local .scVector .vmem, ⟨1, _⟩ => ⟨S32x128, .i32⟩
  | _, _ => ⟨S1000x32x768, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 23 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | _ => false

abbrev sig : RefSig :=
  ofTables nBuf rfl bufTy 4 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_arg0_scs : Ref sig .scScalar := ⟨.hbm, 0, rfl⟩
abbrev main_arg2_scs : Ref sig .scScalar := ⟨.hbm, 2, rfl⟩
abbrev main_v1_scs : Ref sig .scScalar := ⟨.hbm, 6, rfl⟩
abbrev main_v0_scv : Ref sig .scVector := ⟨.hbm, 5, rfl⟩
abbrev main_arg2_scv : Ref sig .scVector := ⟨.hbm, 2, rfl⟩
abbrev main_v2_scv : Ref sig .scVector := ⟨.hbm, 7, rfl⟩
abbrev cc0_scratch0 : Ref sig .scScalar := ⟨.smem, 0, rfl⟩
abbrev cc1_scratch0 : Ref sig .scVector := ⟨.vmem, 0, rfl⟩
abbrev cc1_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32 : BitVec 32 := 0#32
  let c8_i32 : BitVec 32 := 8#32
  let v1 : BitVec 32 := Scalar.addi c0_i32 c8_i32
  let c1_i32 : BitVec 32 := 1#32
  ⟨c0_i32, v1, c1_i32⟩
def k0_off1 (i : grid0.Coords) (k0_t1 : Fin k0_t1_loop.trips) : Fin 1 → Nat :=
  let arg0 : BitVec 32 := BitVec.ofNat 32 (i 0).val
  let c2048_i32 : BitVec 32 := 2048#32
  let v0 : BitVec 32 := Scalar.muli arg0 c2048_i32
  let c0_i32 : BitVec 32 := 0#32
  let c1_i32 : BitVec 32 := 1#32
  let arg6 : BitVec 32 := Scf.iv c0_i32 c1_i32 k0_t1
  let c256_i32 : BitVec 32 := 256#32
  let v66 : BitVec 32 := Scalar.muli arg6 c256_i32
  let v67 : BitVec 32 := Scalar.addi v0 v66
  ![v67.toNat]
def k0_cond1 (k0_t1 : Fin k0_t1_loop.trips) : BitVec 1 :=
  let c0_i32 : BitVec 32 := 0#32
  let c1_i32 : BitVec 32 := 1#32
  let arg6 : BitVec 32 := Scf.iv c0_i32 c1_i32 k0_t1
  let c0_i32_100 : BitVec 32 := 0#32
  let v68 : BitVec 1 := Scalar.cmpi .eq arg6 c0_i32_100
  let v69 : BitVec 32 := Scalar.extui v68
  let c0_i32_101 : BitVec 32 := 0#32
  let v70 : BitVec 1 := Scalar.cmpi .ne v69 c0_i32_101
  v70

def k0_off2 (i : grid0.Coords) (k0_t1 : Fin k0_t1_loop.trips) : Fin 3 → Nat :=
  let arg0 : BitVec 32 := BitVec.ofNat 32 (i 0).val
  let c2048_i32 : BitVec 32 := 2048#32
  let v0 : BitVec 32 := Scalar.muli arg0 c2048_i32
  let c0_i32 : BitVec 32 := 0#32
  let c1_i32 : BitVec 32 := 1#32
  let arg6 : BitVec 32 := Scf.iv c0_i32 c1_i32 k0_t1
  let c256_i32_108 : BitVec 32 := 256#32
  let v75 : BitVec 32 := Scalar.muli arg6 c256_i32_108
  let v76 : BitVec 32 := Scalar.addi v0 v75
  let c0_i32_109 : BitVec 32 := 0#32
  let v77 : BitVec 32 := Scalar.addi v76 c0_i32_109
  let c0_i32_112 : BitVec 32 := 0#32
  let c0_i32_113 : BitVec 32 := 0#32
  ![v77.toNat, 0, 0]
def k0_off3 (v79 : BitVec 32) : Fin 3 → Nat :=
  let c0_i32_114 : BitVec 32 := 0#32
  let c0_i32_115 : BitVec 32 := 0#32
  ![v79.toNat, 0, 0]

def k0_chk1 (k0_t1 : Fin k0_t1_loop.trips) (v79 : BitVec 32) : Prop :=
  (∀ (k0_h1 : k0_cond1 k0_t1 = 1#1), ∀ a, (k0_off3 v79) a + S1x32x768.size a ≤ S1000x32x768.size a)
theorem k0_off3_inb : ∀ (k0_t1 : Fin k0_t1_loop.trips) (v79 : BitVec 32) (k0_hw1 : k0_chk1 k0_t1 v79), ∀ (k0_h1 : k0_cond1 k0_t1 = 1#1), ∀ a, (k0_off3 v79) a + S1x32x768.size a ≤ S1000x32x768.size a := fun k0_t1 v79 k0_hw1 k0_h1 => k0_hw1 k0_h1

def k0_off4 (i : grid0.Coords) (k0_t1 : Fin k0_t1_loop.trips) : Fin 3 → Nat :=
  let arg0 : BitVec 32 := BitVec.ofNat 32 (i 0).val
  let c2048_i32 : BitVec 32 := 2048#32
  let v0 : BitVec 32 := Scalar.muli arg0 c2048_i32
  let c0_i32 : BitVec 32 := 0#32
  let c1_i32 : BitVec 32 := 1#32
  let arg6 : BitVec 32 := Scf.iv c0_i32 c1_i32 k0_t1
  let c256_i32_116 : BitVec 32 := 256#32
  let v84 : BitVec 32 := Scalar.muli arg6 c256_i32_116
  let v85 : BitVec 32 := Scalar.addi v0 v84
  let c1_i32_117 : BitVec 32 := 1#32
  let v86 : BitVec 32 := Scalar.addi v85 c1_i32_117
  let c0_i32_120 : BitVec 32 := 0#32
  let c0_i32_121 : BitVec 32 := 0#32
  ![v86.toNat, 0, 0]
def k0_off5 (v88 : BitVec 32) : Fin 3 → Nat :=
  let c0_i32_122 : BitVec 32 := 0#32
  let c0_i32_123 : BitVec 32 := 0#32
  ![v88.toNat, 0, 0]

def k0_chk2 (k0_t1 : Fin k0_t1_loop.trips) (v88 : BitVec 32) : Prop :=
  (∀ (k0_h1 : k0_cond1 k0_t1 = 1#1), ∀ a, (k0_off5 v88) a + S1x32x768.size a ≤ S1000x32x768.size a)
theorem k0_off5_inb : ∀ (k0_t1 : Fin k0_t1_loop.trips) (v88 : BitVec 32) (k0_hw2 : k0_chk2 k0_t1 v88), ∀ (k0_h1 : k0_cond1 k0_t1 = 1#1), ∀ a, (k0_off5 v88) a + S1x32x768.size a ≤ S1000x32x768.size a := fun k0_t1 v88 k0_hw2 k0_h1 => k0_hw2 k0_h1

def k0_off6 (i : grid0.Coords) (k0_t1 : Fin k0_t1_loop.trips) : Fin 3 → Nat :=
  let arg0 : BitVec 32 := BitVec.ofNat 32 (i 0).val
  let c2048_i32 : BitVec 32 := 2048#32
  let v0 : BitVec 32 := Scalar.muli arg0 c2048_i32
  let c0_i32 : BitVec 32 := 0#32
  let c1_i32 : BitVec 32 := 1#32
  let arg6 : BitVec 32 := Scf.iv c0_i32 c1_i32 k0_t1
  let c256_i32_124 : BitVec 32 := 256#32
  let v93 : BitVec 32 := Scalar.muli arg6 c256_i32_124
  let v94 : BitVec 32 := Scalar.addi v0 v93
  let c2_i32_125 : BitVec 32 := 2#32
  let v95 : BitVec 32 := Scalar.addi v94 c2_i32_125
  let c0_i32_128 : BitVec 32 := 0#32
  let c0_i32_129 : BitVec 32 := 0#32
  ![v95.toNat, 0, 0]
def k0_off7 (v97 : BitVec 32) : Fin 3 → Nat :=
  let c0_i32_130 : BitVec 32 := 0#32
  let c0_i32_131 : BitVec 32 := 0#32
  ![v97.toNat, 0, 0]

def k0_chk3 (k0_t1 : Fin k0_t1_loop.trips) (v97 : BitVec 32) : Prop :=
  (∀ (k0_h1 : k0_cond1 k0_t1 = 1#1), ∀ a, (k0_off7 v97) a + S1x32x768.size a ≤ S1000x32x768.size a)
theorem k0_off7_inb : ∀ (k0_t1 : Fin k0_t1_loop.trips) (v97 : BitVec 32) (k0_hw3 : k0_chk3 k0_t1 v97), ∀ (k0_h1 : k0_cond1 k0_t1 = 1#1), ∀ a, (k0_off7 v97) a + S1x32x768.size a ≤ S1000x32x768.size a := fun k0_t1 v97 k0_hw3 k0_h1 => k0_hw3 k0_h1

def k0_off8 (i : grid0.Coords) (k0_t1 : Fin k0_t1_loop.trips) : Fin 3 → Nat :=
  let arg0 : BitVec 32 := BitVec.ofNat 32 (i 0).val
  let c2048_i32 : BitVec 32 := 2048#32
  let v0 : BitVec 32 := Scalar.muli arg0 c2048_i32
  let c0_i32 : BitVec 32 := 0#32
  let c1_i32 : BitVec 32 := 1#32
  let arg6 : BitVec 32 := Scf.iv c0_i32 c1_i32 k0_t1
  let c256_i32_132 : BitVec 32 := 256#32
  let v102 : BitVec 32 := Scalar.muli arg6 c256_i32_132
  let v103 : BitVec 32 := Scalar.addi v0 v102
  let c3_i32_133 : BitVec 32 := 3#32
  let v104 : BitVec 32 := Scalar.addi v103 c3_i32_133
  let c0_i32_136 : BitVec 32 := 0#32
  let c0_i32_137 : BitVec 32 := 0#32
  ![v104.toNat, 0, 0]
def k0_off9 (v106 : BitVec 32) : Fin 3 → Nat :=
  let c0_i32_138 : BitVec 32 := 0#32
  let c0_i32_139 : BitVec 32 := 0#32
  ![v106.toNat, 0, 0]

def k0_chk4 (k0_t1 : Fin k0_t1_loop.trips) (v106 : BitVec 32) : Prop :=
  (∀ (k0_h1 : k0_cond1 k0_t1 = 1#1), ∀ a, (k0_off9 v106) a + S1x32x768.size a ≤ S1000x32x768.size a)
theorem k0_off9_inb : ∀ (k0_t1 : Fin k0_t1_loop.trips) (v106 : BitVec 32) (k0_hw4 : k0_chk4 k0_t1 v106), ∀ (k0_h1 : k0_cond1 k0_t1 = 1#1), ∀ a, (k0_off9 v106) a + S1x32x768.size a ≤ S1000x32x768.size a := fun k0_t1 v106 k0_hw4 k0_h1 => k0_hw4 k0_h1

def k0_off10 (i : grid0.Coords) (k0_t1 : Fin k0_t1_loop.trips) : Fin 3 → Nat :=
  let arg0 : BitVec 32 := BitVec.ofNat 32 (i 0).val
  let c2048_i32 : BitVec 32 := 2048#32
  let v0 : BitVec 32 := Scalar.muli arg0 c2048_i32
  let c0_i32 : BitVec 32 := 0#32
  let c1_i32 : BitVec 32 := 1#32
  let arg6 : BitVec 32 := Scf.iv c0_i32 c1_i32 k0_t1
  let c256_i32_140 : BitVec 32 := 256#32
  let v111 : BitVec 32 := Scalar.muli arg6 c256_i32_140
  let v112 : BitVec 32 := Scalar.addi v0 v111
  let c4_i32_141 : BitVec 32 := 4#32
  let v113 : BitVec 32 := Scalar.addi v112 c4_i32_141
  let c0_i32_144 : BitVec 32 := 0#32
  let c0_i32_145 : BitVec 32 := 0#32
  ![v113.toNat, 0, 0]
def k0_off11 (v115 : BitVec 32) : Fin 3 → Nat :=
  let c0_i32_146 : BitVec 32 := 0#32
  let c0_i32_147 : BitVec 32 := 0#32
  ![v115.toNat, 0, 0]

def k0_chk5 (k0_t1 : Fin k0_t1_loop.trips) (v115 : BitVec 32) : Prop :=
  (∀ (k0_h1 : k0_cond1 k0_t1 = 1#1), ∀ a, (k0_off11 v115) a + S1x32x768.size a ≤ S1000x32x768.size a)
theorem k0_off11_inb : ∀ (k0_t1 : Fin k0_t1_loop.trips) (v115 : BitVec 32) (k0_hw5 : k0_chk5 k0_t1 v115), ∀ (k0_h1 : k0_cond1 k0_t1 = 1#1), ∀ a, (k0_off11 v115) a + S1x32x768.size a ≤ S1000x32x768.size a := fun k0_t1 v115 k0_hw5 k0_h1 => k0_hw5 k0_h1

def k0_off12 (i : grid0.Coords) (k0_t1 : Fin k0_t1_loop.trips) : Fin 3 → Nat :=
  let arg0 : BitVec 32 := BitVec.ofNat 32 (i 0).val
  let c2048_i32 : BitVec 32 := 2048#32
  let v0 : BitVec 32 := Scalar.muli arg0 c2048_i32
  let c0_i32 : BitVec 32 := 0#32
  let c1_i32 : BitVec 32 := 1#32
  let arg6 : BitVec 32 := Scf.iv c0_i32 c1_i32 k0_t1
  let c256_i32_148 : BitVec 32 := 256#32
  let v120 : BitVec 32 := Scalar.muli arg6 c256_i32_148
  let v121 : BitVec 32 := Scalar.addi v0 v120
  let c5_i32_149 : BitVec 32 := 5#32
  let v122 : BitVec 32 := Scalar.addi v121 c5_i32_149
  let c0_i32_152 : BitVec 32 := 0#32
  let c0_i32_153 : BitVec 32 := 0#32
  ![v122.toNat, 0, 0]
def k0_off13 (v124 : BitVec 32) : Fin 3 → Nat :=
  let c0_i32_154 : BitVec 32 := 0#32
  let c0_i32_155 : BitVec 32 := 0#32
  ![v124.toNat, 0, 0]

def k0_chk6 (k0_t1 : Fin k0_t1_loop.trips) (v124 : BitVec 32) : Prop :=
  (∀ (k0_h1 : k0_cond1 k0_t1 = 1#1), ∀ a, (k0_off13 v124) a + S1x32x768.size a ≤ S1000x32x768.size a)
theorem k0_off13_inb : ∀ (k0_t1 : Fin k0_t1_loop.trips) (v124 : BitVec 32) (k0_hw6 : k0_chk6 k0_t1 v124), ∀ (k0_h1 : k0_cond1 k0_t1 = 1#1), ∀ a, (k0_off13 v124) a + S1x32x768.size a ≤ S1000x32x768.size a := fun k0_t1 v124 k0_hw6 k0_h1 => k0_hw6 k0_h1

def k0_off14 (i : grid0.Coords) (k0_t1 : Fin k0_t1_loop.trips) : Fin 3 → Nat :=
  let arg0 : BitVec 32 := BitVec.ofNat 32 (i 0).val
  let c2048_i32 : BitVec 32 := 2048#32
  let v0 : BitVec 32 := Scalar.muli arg0 c2048_i32
  let c0_i32 : BitVec 32 := 0#32
  let c1_i32 : BitVec 32 := 1#32
  let arg6 : BitVec 32 := Scf.iv c0_i32 c1_i32 k0_t1
  let c256_i32_156 : BitVec 32 := 256#32
  let v129 : BitVec 32 := Scalar.muli arg6 c256_i32_156
  let v130 : BitVec 32 := Scalar.addi v0 v129
  let c6_i32_157 : BitVec 32 := 6#32
  let v131 : BitVec 32 := Scalar.addi v130 c6_i32_157
  let c0_i32_160 : BitVec 32 := 0#32
  let c0_i32_161 : BitVec 32 := 0#32
  ![v131.toNat, 0, 0]
def k0_off15 (v133 : BitVec 32) : Fin 3 → Nat :=
  let c0_i32_162 : BitVec 32 := 0#32
  let c0_i32_163 : BitVec 32 := 0#32
  ![v133.toNat, 0, 0]

def k0_chk7 (k0_t1 : Fin k0_t1_loop.trips) (v133 : BitVec 32) : Prop :=
  (∀ (k0_h1 : k0_cond1 k0_t1 = 1#1), ∀ a, (k0_off15 v133) a + S1x32x768.size a ≤ S1000x32x768.size a)
theorem k0_off15_inb : ∀ (k0_t1 : Fin k0_t1_loop.trips) (v133 : BitVec 32) (k0_hw7 : k0_chk7 k0_t1 v133), ∀ (k0_h1 : k0_cond1 k0_t1 = 1#1), ∀ a, (k0_off15 v133) a + S1x32x768.size a ≤ S1000x32x768.size a := fun k0_t1 v133 k0_hw7 k0_h1 => k0_hw7 k0_h1

def k0_off16 (i : grid0.Coords) (k0_t1 : Fin k0_t1_loop.trips) : Fin 3 → Nat :=
  let arg0 : BitVec 32 := BitVec.ofNat 32 (i 0).val
  let c2048_i32 : BitVec 32 := 2048#32
  let v0 : BitVec 32 := Scalar.muli arg0 c2048_i32
  let c0_i32 : BitVec 32 := 0#32
  let c1_i32 : BitVec 32 := 1#32
  let arg6 : BitVec 32 := Scf.iv c0_i32 c1_i32 k0_t1
  let c256_i32_164 : BitVec 32 := 256#32
  let v138 : BitVec 32 := Scalar.muli arg6 c256_i32_164
  let v139 : BitVec 32 := Scalar.addi v0 v138
  let c7_i32_165 : BitVec 32 := 7#32
  let v140 : BitVec 32 := Scalar.addi v139 c7_i32_165
  let c0_i32_168 : BitVec 32 := 0#32
  let c0_i32_169 : BitVec 32 := 0#32
  ![v140.toNat, 0, 0]
def k0_off17 (v142 : BitVec 32) : Fin 3 → Nat :=
  let c0_i32_170 : BitVec 32 := 0#32
  let c0_i32_171 : BitVec 32 := 0#32
  ![v142.toNat, 0, 0]

def k0_chk8 (k0_t1 : Fin k0_t1_loop.trips) (v142 : BitVec 32) : Prop :=
  (∀ (k0_h1 : k0_cond1 k0_t1 = 1#1), ∀ a, (k0_off17 v142) a + S1x32x768.size a ≤ S1000x32x768.size a)
theorem k0_off17_inb : ∀ (k0_t1 : Fin k0_t1_loop.trips) (v142 : BitVec 32) (k0_hw8 : k0_chk8 k0_t1 v142), ∀ (k0_h1 : k0_cond1 k0_t1 = 1#1), ∀ a, (k0_off17 v142) a + S1x32x768.size a ≤ S1000x32x768.size a := fun k0_t1 v142 k0_hw8 k0_h1 => k0_hw8 k0_h1

def k0_off18 (i : grid0.Coords) (k0_t1 : Fin k0_t1_loop.trips) : Fin 3 → Nat :=
  let arg0 : BitVec 32 := BitVec.ofNat 32 (i 0).val
  let c2048_i32 : BitVec 32 := 2048#32
  let v0 : BitVec 32 := Scalar.muli arg0 c2048_i32
  let c0_i32 : BitVec 32 := 0#32
  let c1_i32 : BitVec 32 := 1#32
  let arg6 : BitVec 32 := Scf.iv c0_i32 c1_i32 k0_t1
  let c256_i32_172 : BitVec 32 := 256#32
  let v147 : BitVec 32 := Scalar.muli arg6 c256_i32_172
  let v148 : BitVec 32 := Scalar.addi v0 v147
  let c8_i32_173 : BitVec 32 := 8#32
  let v149 : BitVec 32 := Scalar.addi v148 c8_i32_173
  let c0_i32_176 : BitVec 32 := 0#32
  let c0_i32_177 : BitVec 32 := 0#32
  ![v149.toNat, 0, 0]
def k0_off19 (v151 : BitVec 32) : Fin 3 → Nat :=
  let c0_i32_178 : BitVec 32 := 0#32
  let c0_i32_179 : BitVec 32 := 0#32
  ![v151.toNat, 0, 0]

def k0_chk9 (k0_t1 : Fin k0_t1_loop.trips) (v151 : BitVec 32) : Prop :=
  (∀ (k0_h1 : k0_cond1 k0_t1 = 1#1), ∀ a, (k0_off19 v151) a + S1x32x768.size a ≤ S1000x32x768.size a)
theorem k0_off19_inb : ∀ (k0_t1 : Fin k0_t1_loop.trips) (v151 : BitVec 32) (k0_hw9 : k0_chk9 k0_t1 v151), ∀ (k0_h1 : k0_cond1 k0_t1 = 1#1), ∀ a, (k0_off19 v151) a + S1x32x768.size a ≤ S1000x32x768.size a := fun k0_t1 v151 k0_hw9 k0_h1 => k0_hw9 k0_h1

def k0_off20 (i : grid0.Coords) (k0_t1 : Fin k0_t1_loop.trips) : Fin 3 → Nat :=
  let arg0 : BitVec 32 := BitVec.ofNat 32 (i 0).val
  let c2048_i32 : BitVec 32 := 2048#32
  let v0 : BitVec 32 := Scalar.muli arg0 c2048_i32
  let c0_i32 : BitVec 32 := 0#32
  let c1_i32 : BitVec 32 := 1#32
  let arg6 : BitVec 32 := Scf.iv c0_i32 c1_i32 k0_t1
  let c256_i32_180 : BitVec 32 := 256#32
  let v156 : BitVec 32 := Scalar.muli arg6 c256_i32_180
  let v157 : BitVec 32 := Scalar.addi v0 v156
  let c9_i32_181 : BitVec 32 := 9#32
  let v158 : BitVec 32 := Scalar.addi v157 c9_i32_181
  let c0_i32_184 : BitVec 32 := 0#32
  let c0_i32_185 : BitVec 32 := 0#32
  ![v158.toNat, 0, 0]
def k0_off21 (v160 : BitVec 32) : Fin 3 → Nat :=
  let c0_i32_186 : BitVec 32 := 0#32
  let c0_i32_187 : BitVec 32 := 0#32
  ![v160.toNat, 0, 0]

def k0_chk10 (k0_t1 : Fin k0_t1_loop.trips) (v160 : BitVec 32) : Prop :=
  (∀ (k0_h1 : k0_cond1 k0_t1 = 1#1), ∀ a, (k0_off21 v160) a + S1x32x768.size a ≤ S1000x32x768.size a)
theorem k0_off21_inb : ∀ (k0_t1 : Fin k0_t1_loop.trips) (v160 : BitVec 32) (k0_hw10 : k0_chk10 k0_t1 v160), ∀ (k0_h1 : k0_cond1 k0_t1 = 1#1), ∀ a, (k0_off21 v160) a + S1x32x768.size a ≤ S1000x32x768.size a := fun k0_t1 v160 k0_hw10 k0_h1 => k0_hw10 k0_h1

def k0_off22 (i : grid0.Coords) (k0_t1 : Fin k0_t1_loop.trips) : Fin 3 → Nat :=
  let arg0 : BitVec 32 := BitVec.ofNat 32 (i 0).val
  let c2048_i32 : BitVec 32 := 2048#32
  let v0 : BitVec 32 := Scalar.muli arg0 c2048_i32
  let c0_i32 : BitVec 32 := 0#32
  let c1_i32 : BitVec 32 := 1#32
  let arg6 : BitVec 32 := Scf.iv c0_i32 c1_i32 k0_t1
  let c256_i32_188 : BitVec 32 := 256#32
  let v165 : BitVec 32 := Scalar.muli arg6 c256_i32_188
  let v166 : BitVec 32 := Scalar.addi v0 v165
  let c10_i32_189 : BitVec 32 := 10#32
  let v167 : BitVec 32 := Scalar.addi v166 c10_i32_189
  let c0_i32_192 : BitVec 32 := 0#32
  let c0_i32_193 : BitVec 32 := 0#32
  ![v167.toNat, 0, 0]
def k0_off23 (v169 : BitVec 32) : Fin 3 → Nat :=
  let c0_i32_194 : BitVec 32 := 0#32
  let c0_i32_195 : BitVec 32 := 0#32
  ![v169.toNat, 0, 0]

def k0_chk11 (k0_t1 : Fin k0_t1_loop.trips) (v169 : BitVec 32) : Prop :=
  (∀ (k0_h1 : k0_cond1 k0_t1 = 1#1), ∀ a, (k0_off23 v169) a + S1x32x768.size a ≤ S1000x32x768.size a)
theorem k0_off23_inb : ∀ (k0_t1 : Fin k0_t1_loop.trips) (v169 : BitVec 32) (k0_hw11 : k0_chk11 k0_t1 v169), ∀ (k0_h1 : k0_cond1 k0_t1 = 1#1), ∀ a, (k0_off23 v169) a + S1x32x768.size a ≤ S1000x32x768.size a := fun k0_t1 v169 k0_hw11 k0_h1 => k0_hw11 k0_h1

def k0_off24 (i : grid0.Coords) (k0_t1 : Fin k0_t1_loop.trips) : Fin 3 → Nat :=
  let arg0 : BitVec 32 := BitVec.ofNat 32 (i 0).val
  let c2048_i32 : BitVec 32 := 2048#32
  let v0 : BitVec 32 := Scalar.muli arg0 c2048_i32
  let c0_i32 : BitVec 32 := 0#32
  let c1_i32 : BitVec 32 := 1#32
  let arg6 : BitVec 32 := Scf.iv c0_i32 c1_i32 k0_t1
  let c256_i32_196 : BitVec 32 := 256#32
  let v174 : BitVec 32 := Scalar.muli arg6 c256_i32_196
  let v175 : BitVec 32 := Scalar.addi v0 v174
  let c11_i32_197 : BitVec 32 := 11#32
  let v176 : BitVec 32 := Scalar.addi v175 c11_i32_197
  let c0_i32_200 : BitVec 32 := 0#32
  let c0_i32_201 : BitVec 32 := 0#32
  ![v176.toNat, 0, 0]
def k0_off25 (v178 : BitVec 32) : Fin 3 → Nat :=
  let c0_i32_202 : BitVec 32 := 0#32
  let c0_i32_203 : BitVec 32 := 0#32
  ![v178.toNat, 0, 0]

def k0_chk12 (k0_t1 : Fin k0_t1_loop.trips) (v178 : BitVec 32) : Prop :=
  (∀ (k0_h1 : k0_cond1 k0_t1 = 1#1), ∀ a, (k0_off25 v178) a + S1x32x768.size a ≤ S1000x32x768.size a)
theorem k0_off25_inb : ∀ (k0_t1 : Fin k0_t1_loop.trips) (v178 : BitVec 32) (k0_hw12 : k0_chk12 k0_t1 v178), ∀ (k0_h1 : k0_cond1 k0_t1 = 1#1), ∀ a, (k0_off25 v178) a + S1x32x768.size a ≤ S1000x32x768.size a := fun k0_t1 v178 k0_hw12 k0_h1 => k0_hw12 k0_h1

def k0_off26 (i : grid0.Coords) (k0_t1 : Fin k0_t1_loop.trips) : Fin 3 → Nat :=
  let arg0 : BitVec 32 := BitVec.ofNat 32 (i 0).val
  let c2048_i32 : BitVec 32 := 2048#32
  let v0 : BitVec 32 := Scalar.muli arg0 c2048_i32
  let c0_i32 : BitVec 32 := 0#32
  let c1_i32 : BitVec 32 := 1#32
  let arg6 : BitVec 32 := Scf.iv c0_i32 c1_i32 k0_t1
  let c256_i32_204 : BitVec 32 := 256#32
  let v183 : BitVec 32 := Scalar.muli arg6 c256_i32_204
  let v184 : BitVec 32 := Scalar.addi v0 v183
  let c12_i32_205 : BitVec 32 := 12#32
  let v185 : BitVec 32 := Scalar.addi v184 c12_i32_205
  let c0_i32_208 : BitVec 32 := 0#32
  let c0_i32_209 : BitVec 32 := 0#32
  ![v185.toNat, 0, 0]
def k0_off27 (v187 : BitVec 32) : Fin 3 → Nat :=
  let c0_i32_210 : BitVec 32 := 0#32
  let c0_i32_211 : BitVec 32 := 0#32
  ![v187.toNat, 0, 0]

def k0_chk13 (k0_t1 : Fin k0_t1_loop.trips) (v187 : BitVec 32) : Prop :=
  (∀ (k0_h1 : k0_cond1 k0_t1 = 1#1), ∀ a, (k0_off27 v187) a + S1x32x768.size a ≤ S1000x32x768.size a)
theorem k0_off27_inb : ∀ (k0_t1 : Fin k0_t1_loop.trips) (v187 : BitVec 32) (k0_hw13 : k0_chk13 k0_t1 v187), ∀ (k0_h1 : k0_cond1 k0_t1 = 1#1), ∀ a, (k0_off27 v187) a + S1x32x768.size a ≤ S1000x32x768.size a := fun k0_t1 v187 k0_hw13 k0_h1 => k0_hw13 k0_h1

def k0_off28 (i : grid0.Coords) (k0_t1 : Fin k0_t1_loop.trips) : Fin 3 → Nat :=
  let arg0 : BitVec 32 := BitVec.ofNat 32 (i 0).val
  let c2048_i32 : BitVec 32 := 2048#32
  let v0 : BitVec 32 := Scalar.muli arg0 c2048_i32
  let c0_i32 : BitVec 32 := 0#32
  let c1_i32 : BitVec 32 := 1#32
  let arg6 : BitVec 32 := Scf.iv c0_i32 c1_i32 k0_t1
  let c256_i32_212 : BitVec 32 := 256#32
  let v192 : BitVec 32 := Scalar.muli arg6 c256_i32_212
  let v193 : BitVec 32 := Scalar.addi v0 v192
  let c13_i32_213 : BitVec 32 := 13#32
  let v194 : BitVec 32 := Scalar.addi v193 c13_i32_213
  let c0_i32_216 : BitVec 32 := 0#32
  let c0_i32_217 : BitVec 32 := 0#32
  ![v194.toNat, 0, 0]
def k0_off29 (v196 : BitVec 32) : Fin 3 → Nat :=
  let c0_i32_218 : BitVec 32 := 0#32
  let c0_i32_219 : BitVec 32 := 0#32
  ![v196.toNat, 0, 0]

def k0_chk14 (k0_t1 : Fin k0_t1_loop.trips) (v196 : BitVec 32) : Prop :=
  (∀ (k0_h1 : k0_cond1 k0_t1 = 1#1), ∀ a, (k0_off29 v196) a + S1x32x768.size a ≤ S1000x32x768.size a)
theorem k0_off29_inb : ∀ (k0_t1 : Fin k0_t1_loop.trips) (v196 : BitVec 32) (k0_hw14 : k0_chk14 k0_t1 v196), ∀ (k0_h1 : k0_cond1 k0_t1 = 1#1), ∀ a, (k0_off29 v196) a + S1x32x768.size a ≤ S1000x32x768.size a := fun k0_t1 v196 k0_hw14 k0_h1 => k0_hw14 k0_h1

def k0_off30 (i : grid0.Coords) (k0_t1 : Fin k0_t1_loop.trips) : Fin 3 → Nat :=
  let arg0 : BitVec 32 := BitVec.ofNat 32 (i 0).val
  let c2048_i32 : BitVec 32 := 2048#32
  let v0 : BitVec 32 := Scalar.muli arg0 c2048_i32
  let c0_i32 : BitVec 32 := 0#32
  let c1_i32 : BitVec 32 := 1#32
  let arg6 : BitVec 32 := Scf.iv c0_i32 c1_i32 k0_t1
  let c256_i32_220 : BitVec 32 := 256#32
  let v201 : BitVec 32 := Scalar.muli arg6 c256_i32_220
  let v202 : BitVec 32 := Scalar.addi v0 v201
  let c14_i32_221 : BitVec 32 := 14#32
  let v203 : BitVec 32 := Scalar.addi v202 c14_i32_221
  let c0_i32_224 : BitVec 32 := 0#32
  let c0_i32_225 : BitVec 32 := 0#32
  ![v203.toNat, 0, 0]
def k0_off31 (v205 : BitVec 32) : Fin 3 → Nat :=
  let c0_i32_226 : BitVec 32 := 0#32
  let c0_i32_227 : BitVec 32 := 0#32
  ![v205.toNat, 0, 0]

def k0_chk15 (k0_t1 : Fin k0_t1_loop.trips) (v205 : BitVec 32) : Prop :=
  (∀ (k0_h1 : k0_cond1 k0_t1 = 1#1), ∀ a, (k0_off31 v205) a + S1x32x768.size a ≤ S1000x32x768.size a)
theorem k0_off31_inb : ∀ (k0_t1 : Fin k0_t1_loop.trips) (v205 : BitVec 32) (k0_hw15 : k0_chk15 k0_t1 v205), ∀ (k0_h1 : k0_cond1 k0_t1 = 1#1), ∀ a, (k0_off31 v205) a + S1x32x768.size a ≤ S1000x32x768.size a := fun k0_t1 v205 k0_hw15 k0_h1 => k0_hw15 k0_h1

def k0_off32 (i : grid0.Coords) (k0_t1 : Fin k0_t1_loop.trips) : Fin 3 → Nat :=
  let arg0 : BitVec 32 := BitVec.ofNat 32 (i 0).val
  let c2048_i32 : BitVec 32 := 2048#32
  let v0 : BitVec 32 := Scalar.muli arg0 c2048_i32
  let c0_i32 : BitVec 32 := 0#32
  let c1_i32 : BitVec 32 := 1#32
  let arg6 : BitVec 32 := Scf.iv c0_i32 c1_i32 k0_t1
  let c256_i32_228 : BitVec 32 := 256#32
  let v210 : BitVec 32 := Scalar.muli arg6 c256_i32_228
  let v211 : BitVec 32 := Scalar.addi v0 v210
  let c15_i32_229 : BitVec 32 := 15#32
  let v212 : BitVec 32 := Scalar.addi v211 c15_i32_229
  let c0_i32_232 : BitVec 32 := 0#32
  let c0_i32_233 : BitVec 32 := 0#32
  ![v212.toNat, 0, 0]
def k0_off33 (v214 : BitVec 32) : Fin 3 → Nat :=
  let c0_i32_234 : BitVec 32 := 0#32
  let c0_i32_235 : BitVec 32 := 0#32
  ![v214.toNat, 0, 0]

def k0_chk16 (k0_t1 : Fin k0_t1_loop.trips) (v214 : BitVec 32) : Prop :=
  (∀ (k0_h1 : k0_cond1 k0_t1 = 1#1), ∀ a, (k0_off33 v214) a + S1x32x768.size a ≤ S1000x32x768.size a)
theorem k0_off33_inb : ∀ (k0_t1 : Fin k0_t1_loop.trips) (v214 : BitVec 32) (k0_hw16 : k0_chk16 k0_t1 v214), ∀ (k0_h1 : k0_cond1 k0_t1 = 1#1), ∀ a, (k0_off33 v214) a + S1x32x768.size a ≤ S1000x32x768.size a := fun k0_t1 v214 k0_hw16 k0_h1 => k0_hw16 k0_h1

def k0_cond2 (k0_t1 : Fin k0_t1_loop.trips) : BitVec 1 :=
  let c0_i32 : BitVec 32 := 0#32
  let c1_i32 : BitVec 32 := 1#32
  let arg6 : BitVec 32 := Scf.iv c0_i32 c1_i32 k0_t1
  let c0_i32_102 : BitVec 32 := 0#32
  let v71 : BitVec 1 := Scalar.cmpi .sgt arg6 c0_i32_102
  let v72 : BitVec 32 := Scalar.extui v71
  let c0_i32_103 : BitVec 32 := 0#32
  let v73 : BitVec 1 := Scalar.cmpi .ne v72 c0_i32_103
  v73

def k0_off34 (i : grid0.Coords) (k0_t1 : Fin k0_t1_loop.trips) : Fin 3 → Nat :=
  let arg0 : BitVec 32 := BitVec.ofNat 32 (i 0).val
  let c2048_i32 : BitVec 32 := 2048#32
  let v0 : BitVec 32 := Scalar.muli arg0 c2048_i32
  let c0_i32 : BitVec 32 := 0#32
  let c1_i32 : BitVec 32 := 1#32
  let arg6 : BitVec 32 := Scf.iv c0_i32 c1_i32 k0_t1
  let c256_i32_108 : BitVec 32 := 256#32
  let v75 : BitVec 32 := Scalar.muli arg6 c256_i32_108
  let v76 : BitVec 32 := Scalar.addi v0 v75
  let c0_i32_109 : BitVec 32 := 0#32
  let v77 : BitVec 32 := Scalar.addi v76 c0_i32_109
  let c0_i32_112 : BitVec 32 := 0#32
  let c0_i32_113 : BitVec 32 := 0#32
  ![v77.toNat, 0, 0]
def k0_off35 (v79 : BitVec 32) : Fin 3 → Nat :=
  let c0_i32_114 : BitVec 32 := 0#32
  let c0_i32_115 : BitVec 32 := 0#32
  ![v79.toNat, 0, 0]

def k0_chk17 (k0_t1 : Fin k0_t1_loop.trips) (v79 : BitVec 32) : Prop :=
  (∀ (k0_h2 : k0_cond2 k0_t1 = 1#1), ∀ a, (k0_off35 v79) a + S1x32x768.size a ≤ S1000x32x768.size a)
theorem k0_off35_inb : ∀ (k0_t1 : Fin k0_t1_loop.trips) (v79 : BitVec 32) (k0_hw17 : k0_chk17 k0_t1 v79), ∀ (k0_h2 : k0_cond2 k0_t1 = 1#1), ∀ a, (k0_off35 v79) a + S1x32x768.size a ≤ S1000x32x768.size a := fun k0_t1 v79 k0_hw17 k0_h2 => k0_hw17 k0_h2

def k0_off36 (i : grid0.Coords) (k0_t1 : Fin k0_t1_loop.trips) (c0_i32_109 : BitVec 32) : Fin 3 → Nat :=
  let arg0 : BitVec 32 := BitVec.ofNat 32 (i 0).val
  let c2048_i32 : BitVec 32 := 2048#32
  let v0 : BitVec 32 := Scalar.muli arg0 c2048_i32
  let c0_i32 : BitVec 32 := 0#32
  let c1_i32 : BitVec 32 := 1#32
  let arg6 : BitVec 32 := Scf.iv c0_i32 c1_i32 k0_t1
  let c256_i32_108 : BitVec 32 := 256#32
  let v75 : BitVec 32 := Scalar.muli arg6 c256_i32_108
  let v76 : BitVec 32 := Scalar.addi v0 v75
  let v77 : BitVec 32 := Scalar.addi v76 c0_i32_109
  let c0_i32_117 : BitVec 32 := 0#32
  let c0_i32_118 : BitVec 32 := 0#32
  ![v77.toNat, 0, 0]
def k0_off37 (v92 : BitVec 32) : Fin 3 → Nat :=
  let c0_i32_127 : BitVec 32 := 0#32
  let c0_i32_128 : BitVec 32 := 0#32
  ![v92.toNat, 0, 0]

def k0_chk18 (k0_t1 : Fin k0_t1_loop.trips) (v92 : BitVec 32) : Prop :=
  (∀ (k0_h2 : k0_cond2 k0_t1 = 1#1), ∀ a, (k0_off37 v92) a + S1x32x768.size a ≤ S1000x32x768.size a)
theorem k0_off37_inb : ∀ (k0_t1 : Fin k0_t1_loop.trips) (v92 : BitVec 32) (k0_hw18 : k0_chk18 k0_t1 v92), ∀ (k0_h2 : k0_cond2 k0_t1 = 1#1), ∀ a, (k0_off37 v92) a + S1x32x768.size a ≤ S1000x32x768.size a := fun k0_t1 v92 k0_hw18 k0_h2 => k0_hw18 k0_h2

def k0_off38 (i : grid0.Coords) (k0_t1 : Fin k0_t1_loop.trips) (c1_i32_122 : BitVec 32) : Fin 3 → Nat :=
  let arg0 : BitVec 32 := BitVec.ofNat 32 (i 0).val
  let c2048_i32 : BitVec 32 := 2048#32
  let v0 : BitVec 32 := Scalar.muli arg0 c2048_i32
  let c0_i32 : BitVec 32 := 0#32
  let c1_i32 : BitVec 32 := 1#32
  let arg6 : BitVec 32 := Scf.iv c0_i32 c1_i32 k0_t1
  let c256_i32_121 : BitVec 32 := 256#32
  let v88 : BitVec 32 := Scalar.muli arg6 c256_i32_121
  let v89 : BitVec 32 := Scalar.addi v0 v88
  let v90 : BitVec 32 := Scalar.addi v89 c1_i32_122
  let c0_i32_130 : BitVec 32 := 0#32
  let c0_i32_131 : BitVec 32 := 0#32
  ![v90.toNat, 0, 0]
def k0_off39 (v105 : BitVec 32) : Fin 3 → Nat :=
  let c0_i32_140 : BitVec 32 := 0#32
  let c0_i32_141 : BitVec 32 := 0#32
  ![v105.toNat, 0, 0]

def k0_chk19 (k0_t1 : Fin k0_t1_loop.trips) (v105 : BitVec 32) : Prop :=
  (∀ (k0_h2 : k0_cond2 k0_t1 = 1#1), ∀ a, (k0_off39 v105) a + S1x32x768.size a ≤ S1000x32x768.size a)
theorem k0_off39_inb : ∀ (k0_t1 : Fin k0_t1_loop.trips) (v105 : BitVec 32) (k0_hw19 : k0_chk19 k0_t1 v105), ∀ (k0_h2 : k0_cond2 k0_t1 = 1#1), ∀ a, (k0_off39 v105) a + S1x32x768.size a ≤ S1000x32x768.size a := fun k0_t1 v105 k0_hw19 k0_h2 => k0_hw19 k0_h2

def k0_off40 (i : grid0.Coords) (k0_t1 : Fin k0_t1_loop.trips) (c2_i32_135 : BitVec 32) : Fin 3 → Nat :=
  let arg0 : BitVec 32 := BitVec.ofNat 32 (i 0).val
  let c2048_i32 : BitVec 32 := 2048#32
  let v0 : BitVec 32 := Scalar.muli arg0 c2048_i32
  let c0_i32 : BitVec 32 := 0#32
  let c1_i32 : BitVec 32 := 1#32
  let arg6 : BitVec 32 := Scf.iv c0_i32 c1_i32 k0_t1
  let c256_i32_134 : BitVec 32 := 256#32
  let v101 : BitVec 32 := Scalar.muli arg6 c256_i32_134
  let v102 : BitVec 32 := Scalar.addi v0 v101
  let v103 : BitVec 32 := Scalar.addi v102 c2_i32_135
  let c0_i32_143 : BitVec 32 := 0#32
  let c0_i32_144 : BitVec 32 := 0#32
  ![v103.toNat, 0, 0]
def k0_off41 (v118 : BitVec 32) : Fin 3 → Nat :=
  let c0_i32_153 : BitVec 32 := 0#32
  let c0_i32_154 : BitVec 32 := 0#32
  ![v118.toNat, 0, 0]

def k0_chk20 (k0_t1 : Fin k0_t1_loop.trips) (v118 : BitVec 32) : Prop :=
  (∀ (k0_h2 : k0_cond2 k0_t1 = 1#1), ∀ a, (k0_off41 v118) a + S1x32x768.size a ≤ S1000x32x768.size a)
theorem k0_off41_inb : ∀ (k0_t1 : Fin k0_t1_loop.trips) (v118 : BitVec 32) (k0_hw20 : k0_chk20 k0_t1 v118), ∀ (k0_h2 : k0_cond2 k0_t1 = 1#1), ∀ a, (k0_off41 v118) a + S1x32x768.size a ≤ S1000x32x768.size a := fun k0_t1 v118 k0_hw20 k0_h2 => k0_hw20 k0_h2

def k0_off42 (i : grid0.Coords) (k0_t1 : Fin k0_t1_loop.trips) (c3_i32_148 : BitVec 32) : Fin 3 → Nat :=
  let arg0 : BitVec 32 := BitVec.ofNat 32 (i 0).val
  let c2048_i32 : BitVec 32 := 2048#32
  let v0 : BitVec 32 := Scalar.muli arg0 c2048_i32
  let c0_i32 : BitVec 32 := 0#32
  let c1_i32 : BitVec 32 := 1#32
  let arg6 : BitVec 32 := Scf.iv c0_i32 c1_i32 k0_t1
  let c256_i32_147 : BitVec 32 := 256#32
  let v114 : BitVec 32 := Scalar.muli arg6 c256_i32_147
  let v115 : BitVec 32 := Scalar.addi v0 v114
  let v116 : BitVec 32 := Scalar.addi v115 c3_i32_148
  let c0_i32_156 : BitVec 32 := 0#32
  let c0_i32_157 : BitVec 32 := 0#32
  ![v116.toNat, 0, 0]
def k0_off43 (v131 : BitVec 32) : Fin 3 → Nat :=
  let c0_i32_166 : BitVec 32 := 0#32
  let c0_i32_167 : BitVec 32 := 0#32
  ![v131.toNat, 0, 0]

def k0_chk21 (k0_t1 : Fin k0_t1_loop.trips) (v131 : BitVec 32) : Prop :=
  (∀ (k0_h2 : k0_cond2 k0_t1 = 1#1), ∀ a, (k0_off43 v131) a + S1x32x768.size a ≤ S1000x32x768.size a)
theorem k0_off43_inb : ∀ (k0_t1 : Fin k0_t1_loop.trips) (v131 : BitVec 32) (k0_hw21 : k0_chk21 k0_t1 v131), ∀ (k0_h2 : k0_cond2 k0_t1 = 1#1), ∀ a, (k0_off43 v131) a + S1x32x768.size a ≤ S1000x32x768.size a := fun k0_t1 v131 k0_hw21 k0_h2 => k0_hw21 k0_h2

def k0_off44 (i : grid0.Coords) (k0_t1 : Fin k0_t1_loop.trips) (c4_i32_161 : BitVec 32) : Fin 3 → Nat :=
  let arg0 : BitVec 32 := BitVec.ofNat 32 (i 0).val
  let c2048_i32 : BitVec 32 := 2048#32
  let v0 : BitVec 32 := Scalar.muli arg0 c2048_i32
  let c0_i32 : BitVec 32 := 0#32
  let c1_i32 : BitVec 32 := 1#32
  let arg6 : BitVec 32 := Scf.iv c0_i32 c1_i32 k0_t1
  let c256_i32_160 : BitVec 32 := 256#32
  let v127 : BitVec 32 := Scalar.muli arg6 c256_i32_160
  let v128 : BitVec 32 := Scalar.addi v0 v127
  let v129 : BitVec 32 := Scalar.addi v128 c4_i32_161
  let c0_i32_169 : BitVec 32 := 0#32
  let c0_i32_170 : BitVec 32 := 0#32
  ![v129.toNat, 0, 0]
def k0_off45 (v144 : BitVec 32) : Fin 3 → Nat :=
  let c0_i32_179 : BitVec 32 := 0#32
  let c0_i32_180 : BitVec 32 := 0#32
  ![v144.toNat, 0, 0]

def k0_chk22 (k0_t1 : Fin k0_t1_loop.trips) (v144 : BitVec 32) : Prop :=
  (∀ (k0_h2 : k0_cond2 k0_t1 = 1#1), ∀ a, (k0_off45 v144) a + S1x32x768.size a ≤ S1000x32x768.size a)
theorem k0_off45_inb : ∀ (k0_t1 : Fin k0_t1_loop.trips) (v144 : BitVec 32) (k0_hw22 : k0_chk22 k0_t1 v144), ∀ (k0_h2 : k0_cond2 k0_t1 = 1#1), ∀ a, (k0_off45 v144) a + S1x32x768.size a ≤ S1000x32x768.size a := fun k0_t1 v144 k0_hw22 k0_h2 => k0_hw22 k0_h2

def k0_off46 (i : grid0.Coords) (k0_t1 : Fin k0_t1_loop.trips) (c5_i32_174 : BitVec 32) : Fin 3 → Nat :=
  let arg0 : BitVec 32 := BitVec.ofNat 32 (i 0).val
  let c2048_i32 : BitVec 32 := 2048#32
  let v0 : BitVec 32 := Scalar.muli arg0 c2048_i32
  let c0_i32 : BitVec 32 := 0#32
  let c1_i32 : BitVec 32 := 1#32
  let arg6 : BitVec 32 := Scf.iv c0_i32 c1_i32 k0_t1
  let c256_i32_173 : BitVec 32 := 256#32
  let v140 : BitVec 32 := Scalar.muli arg6 c256_i32_173
  let v141 : BitVec 32 := Scalar.addi v0 v140
  let v142 : BitVec 32 := Scalar.addi v141 c5_i32_174
  let c0_i32_182 : BitVec 32 := 0#32
  let c0_i32_183 : BitVec 32 := 0#32
  ![v142.toNat, 0, 0]
def k0_off47 (v157 : BitVec 32) : Fin 3 → Nat :=
  let c0_i32_192 : BitVec 32 := 0#32
  let c0_i32_193 : BitVec 32 := 0#32
  ![v157.toNat, 0, 0]

def k0_chk23 (k0_t1 : Fin k0_t1_loop.trips) (v157 : BitVec 32) : Prop :=
  (∀ (k0_h2 : k0_cond2 k0_t1 = 1#1), ∀ a, (k0_off47 v157) a + S1x32x768.size a ≤ S1000x32x768.size a)
theorem k0_off47_inb : ∀ (k0_t1 : Fin k0_t1_loop.trips) (v157 : BitVec 32) (k0_hw23 : k0_chk23 k0_t1 v157), ∀ (k0_h2 : k0_cond2 k0_t1 = 1#1), ∀ a, (k0_off47 v157) a + S1x32x768.size a ≤ S1000x32x768.size a := fun k0_t1 v157 k0_hw23 k0_h2 => k0_hw23 k0_h2

def k0_off48 (i : grid0.Coords) (k0_t1 : Fin k0_t1_loop.trips) (c6_i32_187 : BitVec 32) : Fin 3 → Nat :=
  let arg0 : BitVec 32 := BitVec.ofNat 32 (i 0).val
  let c2048_i32 : BitVec 32 := 2048#32
  let v0 : BitVec 32 := Scalar.muli arg0 c2048_i32
  let c0_i32 : BitVec 32 := 0#32
  let c1_i32 : BitVec 32 := 1#32
  let arg6 : BitVec 32 := Scf.iv c0_i32 c1_i32 k0_t1
  let c256_i32_186 : BitVec 32 := 256#32
  let v153 : BitVec 32 := Scalar.muli arg6 c256_i32_186
  let v154 : BitVec 32 := Scalar.addi v0 v153
  let v155 : BitVec 32 := Scalar.addi v154 c6_i32_187
  let c0_i32_195 : BitVec 32 := 0#32
  let c0_i32_196 : BitVec 32 := 0#32
  ![v155.toNat, 0, 0]
def k0_off49 (v170 : BitVec 32) : Fin 3 → Nat :=
  let c0_i32_205 : BitVec 32 := 0#32
  let c0_i32_206 : BitVec 32 := 0#32
  ![v170.toNat, 0, 0]

def k0_chk24 (k0_t1 : Fin k0_t1_loop.trips) (v170 : BitVec 32) : Prop :=
  (∀ (k0_h2 : k0_cond2 k0_t1 = 1#1), ∀ a, (k0_off49 v170) a + S1x32x768.size a ≤ S1000x32x768.size a)
theorem k0_off49_inb : ∀ (k0_t1 : Fin k0_t1_loop.trips) (v170 : BitVec 32) (k0_hw24 : k0_chk24 k0_t1 v170), ∀ (k0_h2 : k0_cond2 k0_t1 = 1#1), ∀ a, (k0_off49 v170) a + S1x32x768.size a ≤ S1000x32x768.size a := fun k0_t1 v170 k0_hw24 k0_h2 => k0_hw24 k0_h2

def k0_off50 (i : grid0.Coords) (k0_t1 : Fin k0_t1_loop.trips) (c7_i32_200 : BitVec 32) : Fin 3 → Nat :=
  let arg0 : BitVec 32 := BitVec.ofNat 32 (i 0).val
  let c2048_i32 : BitVec 32 := 2048#32
  let v0 : BitVec 32 := Scalar.muli arg0 c2048_i32
  let c0_i32 : BitVec 32 := 0#32
  let c1_i32 : BitVec 32 := 1#32
  let arg6 : BitVec 32 := Scf.iv c0_i32 c1_i32 k0_t1
  let c256_i32_199 : BitVec 32 := 256#32
  let v166 : BitVec 32 := Scalar.muli arg6 c256_i32_199
  let v167 : BitVec 32 := Scalar.addi v0 v166
  let v168 : BitVec 32 := Scalar.addi v167 c7_i32_200
  let c0_i32_208 : BitVec 32 := 0#32
  let c0_i32_209 : BitVec 32 := 0#32
  ![v168.toNat, 0, 0]
def k0_off51 (v183 : BitVec 32) : Fin 3 → Nat :=
  let c0_i32_218 : BitVec 32 := 0#32
  let c0_i32_219 : BitVec 32 := 0#32
  ![v183.toNat, 0, 0]

def k0_chk25 (k0_t1 : Fin k0_t1_loop.trips) (v183 : BitVec 32) : Prop :=
  (∀ (k0_h2 : k0_cond2 k0_t1 = 1#1), ∀ a, (k0_off51 v183) a + S1x32x768.size a ≤ S1000x32x768.size a)
theorem k0_off51_inb : ∀ (k0_t1 : Fin k0_t1_loop.trips) (v183 : BitVec 32) (k0_hw25 : k0_chk25 k0_t1 v183), ∀ (k0_h2 : k0_cond2 k0_t1 = 1#1), ∀ a, (k0_off51 v183) a + S1x32x768.size a ≤ S1000x32x768.size a := fun k0_t1 v183 k0_hw25 k0_h2 => k0_hw25 k0_h2

def k0_off52 (i : grid0.Coords) (k0_t1 : Fin k0_t1_loop.trips) (c8_i32_213 : BitVec 32) : Fin 3 → Nat :=
  let arg0 : BitVec 32 := BitVec.ofNat 32 (i 0).val
  let c2048_i32 : BitVec 32 := 2048#32
  let v0 : BitVec 32 := Scalar.muli arg0 c2048_i32
  let c0_i32 : BitVec 32 := 0#32
  let c1_i32 : BitVec 32 := 1#32
  let arg6 : BitVec 32 := Scf.iv c0_i32 c1_i32 k0_t1
  let c256_i32_212 : BitVec 32 := 256#32
  let v179 : BitVec 32 := Scalar.muli arg6 c256_i32_212
  let v180 : BitVec 32 := Scalar.addi v0 v179
  let v181 : BitVec 32 := Scalar.addi v180 c8_i32_213
  let c0_i32_221 : BitVec 32 := 0#32
  let c0_i32_222 : BitVec 32 := 0#32
  ![v181.toNat, 0, 0]
def k0_off53 (v196 : BitVec 32) : Fin 3 → Nat :=
  let c0_i32_231 : BitVec 32 := 0#32
  let c0_i32_232 : BitVec 32 := 0#32
  ![v196.toNat, 0, 0]

def k0_chk26 (k0_t1 : Fin k0_t1_loop.trips) (v196 : BitVec 32) : Prop :=
  (∀ (k0_h2 : k0_cond2 k0_t1 = 1#1), ∀ a, (k0_off53 v196) a + S1x32x768.size a ≤ S1000x32x768.size a)
theorem k0_off53_inb : ∀ (k0_t1 : Fin k0_t1_loop.trips) (v196 : BitVec 32) (k0_hw26 : k0_chk26 k0_t1 v196), ∀ (k0_h2 : k0_cond2 k0_t1 = 1#1), ∀ a, (k0_off53 v196) a + S1x32x768.size a ≤ S1000x32x768.size a := fun k0_t1 v196 k0_hw26 k0_h2 => k0_hw26 k0_h2

def k0_off54 (i : grid0.Coords) (k0_t1 : Fin k0_t1_loop.trips) (c9_i32_226 : BitVec 32) : Fin 3 → Nat :=
  let arg0 : BitVec 32 := BitVec.ofNat 32 (i 0).val
  let c2048_i32 : BitVec 32 := 2048#32
  let v0 : BitVec 32 := Scalar.muli arg0 c2048_i32
  let c0_i32 : BitVec 32 := 0#32
  let c1_i32 : BitVec 32 := 1#32
  let arg6 : BitVec 32 := Scf.iv c0_i32 c1_i32 k0_t1
  let c256_i32_225 : BitVec 32 := 256#32
  let v192 : BitVec 32 := Scalar.muli arg6 c256_i32_225
  let v193 : BitVec 32 := Scalar.addi v0 v192
  let v194 : BitVec 32 := Scalar.addi v193 c9_i32_226
  let c0_i32_234 : BitVec 32 := 0#32
  let c0_i32_235 : BitVec 32 := 0#32
  ![v194.toNat, 0, 0]
def k0_off55 (v209 : BitVec 32) : Fin 3 → Nat :=
  let c0_i32_244 : BitVec 32 := 0#32
  let c0_i32_245 : BitVec 32 := 0#32
  ![v209.toNat, 0, 0]

def k0_chk27 (k0_t1 : Fin k0_t1_loop.trips) (v209 : BitVec 32) : Prop :=
  (∀ (k0_h2 : k0_cond2 k0_t1 = 1#1), ∀ a, (k0_off55 v209) a + S1x32x768.size a ≤ S1000x32x768.size a)
theorem k0_off55_inb : ∀ (k0_t1 : Fin k0_t1_loop.trips) (v209 : BitVec 32) (k0_hw27 : k0_chk27 k0_t1 v209), ∀ (k0_h2 : k0_cond2 k0_t1 = 1#1), ∀ a, (k0_off55 v209) a + S1x32x768.size a ≤ S1000x32x768.size a := fun k0_t1 v209 k0_hw27 k0_h2 => k0_hw27 k0_h2

def k0_off56 (i : grid0.Coords) (k0_t1 : Fin k0_t1_loop.trips) (c10_i32_239 : BitVec 32) : Fin 3 → Nat :=
  let arg0 : BitVec 32 := BitVec.ofNat 32 (i 0).val
  let c2048_i32 : BitVec 32 := 2048#32
  let v0 : BitVec 32 := Scalar.muli arg0 c2048_i32
  let c0_i32 : BitVec 32 := 0#32
  let c1_i32 : BitVec 32 := 1#32
  let arg6 : BitVec 32 := Scf.iv c0_i32 c1_i32 k0_t1
  let c256_i32_238 : BitVec 32 := 256#32
  let v205 : BitVec 32 := Scalar.muli arg6 c256_i32_238
  let v206 : BitVec 32 := Scalar.addi v0 v205
  let v207 : BitVec 32 := Scalar.addi v206 c10_i32_239
  let c0_i32_247 : BitVec 32 := 0#32
  let c0_i32_248 : BitVec 32 := 0#32
  ![v207.toNat, 0, 0]
def k0_off57 (v222 : BitVec 32) : Fin 3 → Nat :=
  let c0_i32_257 : BitVec 32 := 0#32
  let c0_i32_258 : BitVec 32 := 0#32
  ![v222.toNat, 0, 0]

def k0_chk28 (k0_t1 : Fin k0_t1_loop.trips) (v222 : BitVec 32) : Prop :=
  (∀ (k0_h2 : k0_cond2 k0_t1 = 1#1), ∀ a, (k0_off57 v222) a + S1x32x768.size a ≤ S1000x32x768.size a)
theorem k0_off57_inb : ∀ (k0_t1 : Fin k0_t1_loop.trips) (v222 : BitVec 32) (k0_hw28 : k0_chk28 k0_t1 v222), ∀ (k0_h2 : k0_cond2 k0_t1 = 1#1), ∀ a, (k0_off57 v222) a + S1x32x768.size a ≤ S1000x32x768.size a := fun k0_t1 v222 k0_hw28 k0_h2 => k0_hw28 k0_h2

def k0_off58 (i : grid0.Coords) (k0_t1 : Fin k0_t1_loop.trips) (c11_i32_252 : BitVec 32) : Fin 3 → Nat :=
  let arg0 : BitVec 32 := BitVec.ofNat 32 (i 0).val
  let c2048_i32 : BitVec 32 := 2048#32
  let v0 : BitVec 32 := Scalar.muli arg0 c2048_i32
  let c0_i32 : BitVec 32 := 0#32
  let c1_i32 : BitVec 32 := 1#32
  let arg6 : BitVec 32 := Scf.iv c0_i32 c1_i32 k0_t1
  let c256_i32_251 : BitVec 32 := 256#32
  let v218 : BitVec 32 := Scalar.muli arg6 c256_i32_251
  let v219 : BitVec 32 := Scalar.addi v0 v218
  let v220 : BitVec 32 := Scalar.addi v219 c11_i32_252
  let c0_i32_260 : BitVec 32 := 0#32
  let c0_i32_261 : BitVec 32 := 0#32
  ![v220.toNat, 0, 0]
def k0_off59 (v235 : BitVec 32) : Fin 3 → Nat :=
  let c0_i32_270 : BitVec 32 := 0#32
  let c0_i32_271 : BitVec 32 := 0#32
  ![v235.toNat, 0, 0]

def k0_chk29 (k0_t1 : Fin k0_t1_loop.trips) (v235 : BitVec 32) : Prop :=
  (∀ (k0_h2 : k0_cond2 k0_t1 = 1#1), ∀ a, (k0_off59 v235) a + S1x32x768.size a ≤ S1000x32x768.size a)
theorem k0_off59_inb : ∀ (k0_t1 : Fin k0_t1_loop.trips) (v235 : BitVec 32) (k0_hw29 : k0_chk29 k0_t1 v235), ∀ (k0_h2 : k0_cond2 k0_t1 = 1#1), ∀ a, (k0_off59 v235) a + S1x32x768.size a ≤ S1000x32x768.size a := fun k0_t1 v235 k0_hw29 k0_h2 => k0_hw29 k0_h2

def k0_off60 (i : grid0.Coords) (k0_t1 : Fin k0_t1_loop.trips) (c12_i32_265 : BitVec 32) : Fin 3 → Nat :=
  let arg0 : BitVec 32 := BitVec.ofNat 32 (i 0).val
  let c2048_i32 : BitVec 32 := 2048#32
  let v0 : BitVec 32 := Scalar.muli arg0 c2048_i32
  let c0_i32 : BitVec 32 := 0#32
  let c1_i32 : BitVec 32 := 1#32
  let arg6 : BitVec 32 := Scf.iv c0_i32 c1_i32 k0_t1
  let c256_i32_264 : BitVec 32 := 256#32
  let v231 : BitVec 32 := Scalar.muli arg6 c256_i32_264
  let v232 : BitVec 32 := Scalar.addi v0 v231
  let v233 : BitVec 32 := Scalar.addi v232 c12_i32_265
  let c0_i32_273 : BitVec 32 := 0#32
  let c0_i32_274 : BitVec 32 := 0#32
  ![v233.toNat, 0, 0]
def k0_off61 (v248 : BitVec 32) : Fin 3 → Nat :=
  let c0_i32_283 : BitVec 32 := 0#32
  let c0_i32_284 : BitVec 32 := 0#32
  ![v248.toNat, 0, 0]

def k0_chk30 (k0_t1 : Fin k0_t1_loop.trips) (v248 : BitVec 32) : Prop :=
  (∀ (k0_h2 : k0_cond2 k0_t1 = 1#1), ∀ a, (k0_off61 v248) a + S1x32x768.size a ≤ S1000x32x768.size a)
theorem k0_off61_inb : ∀ (k0_t1 : Fin k0_t1_loop.trips) (v248 : BitVec 32) (k0_hw30 : k0_chk30 k0_t1 v248), ∀ (k0_h2 : k0_cond2 k0_t1 = 1#1), ∀ a, (k0_off61 v248) a + S1x32x768.size a ≤ S1000x32x768.size a := fun k0_t1 v248 k0_hw30 k0_h2 => k0_hw30 k0_h2

def k0_off62 (i : grid0.Coords) (k0_t1 : Fin k0_t1_loop.trips) (c13_i32_278 : BitVec 32) : Fin 3 → Nat :=
  let arg0 : BitVec 32 := BitVec.ofNat 32 (i 0).val
  let c2048_i32 : BitVec 32 := 2048#32
  let v0 : BitVec 32 := Scalar.muli arg0 c2048_i32
  let c0_i32 : BitVec 32 := 0#32
  let c1_i32 : BitVec 32 := 1#32
  let arg6 : BitVec 32 := Scf.iv c0_i32 c1_i32 k0_t1
  let c256_i32_277 : BitVec 32 := 256#32
  let v244 : BitVec 32 := Scalar.muli arg6 c256_i32_277
  let v245 : BitVec 32 := Scalar.addi v0 v244
  let v246 : BitVec 32 := Scalar.addi v245 c13_i32_278
  let c0_i32_286 : BitVec 32 := 0#32
  let c0_i32_287 : BitVec 32 := 0#32
  ![v246.toNat, 0, 0]
def k0_off63 (v261 : BitVec 32) : Fin 3 → Nat :=
  let c0_i32_296 : BitVec 32 := 0#32
  let c0_i32_297 : BitVec 32 := 0#32
  ![v261.toNat, 0, 0]

def k0_chk31 (k0_t1 : Fin k0_t1_loop.trips) (v261 : BitVec 32) : Prop :=
  (∀ (k0_h2 : k0_cond2 k0_t1 = 1#1), ∀ a, (k0_off63 v261) a + S1x32x768.size a ≤ S1000x32x768.size a)
theorem k0_off63_inb : ∀ (k0_t1 : Fin k0_t1_loop.trips) (v261 : BitVec 32) (k0_hw31 : k0_chk31 k0_t1 v261), ∀ (k0_h2 : k0_cond2 k0_t1 = 1#1), ∀ a, (k0_off63 v261) a + S1x32x768.size a ≤ S1000x32x768.size a := fun k0_t1 v261 k0_hw31 k0_h2 => k0_hw31 k0_h2

def k0_off64 (i : grid0.Coords) (k0_t1 : Fin k0_t1_loop.trips) (c14_i32_291 : BitVec 32) : Fin 3 → Nat :=
  let arg0 : BitVec 32 := BitVec.ofNat 32 (i 0).val
  let c2048_i32 : BitVec 32 := 2048#32
  let v0 : BitVec 32 := Scalar.muli arg0 c2048_i32
  let c0_i32 : BitVec 32 := 0#32
  let c1_i32 : BitVec 32 := 1#32
  let arg6 : BitVec 32 := Scf.iv c0_i32 c1_i32 k0_t1
  let c256_i32_290 : BitVec 32 := 256#32
  let v257 : BitVec 32 := Scalar.muli arg6 c256_i32_290
  let v258 : BitVec 32 := Scalar.addi v0 v257
  let v259 : BitVec 32 := Scalar.addi v258 c14_i32_291
  let c0_i32_299 : BitVec 32 := 0#32
  let c0_i32_300 : BitVec 32 := 0#32
  ![v259.toNat, 0, 0]
def k0_off65 (v274 : BitVec 32) : Fin 3 → Nat :=
  let c0_i32_309 : BitVec 32 := 0#32
  let c0_i32_310 : BitVec 32 := 0#32
  ![v274.toNat, 0, 0]

def k0_chk32 (k0_t1 : Fin k0_t1_loop.trips) (v274 : BitVec 32) : Prop :=
  (∀ (k0_h2 : k0_cond2 k0_t1 = 1#1), ∀ a, (k0_off65 v274) a + S1x32x768.size a ≤ S1000x32x768.size a)
theorem k0_off65_inb : ∀ (k0_t1 : Fin k0_t1_loop.trips) (v274 : BitVec 32) (k0_hw32 : k0_chk32 k0_t1 v274), ∀ (k0_h2 : k0_cond2 k0_t1 = 1#1), ∀ a, (k0_off65 v274) a + S1x32x768.size a ≤ S1000x32x768.size a := fun k0_t1 v274 k0_hw32 k0_h2 => k0_hw32 k0_h2

def k0_off66 (i : grid0.Coords) (k0_t1 : Fin k0_t1_loop.trips) : Fin 3 → Nat :=
  let arg0 : BitVec 32 := BitVec.ofNat 32 (i 0).val
  let c2048_i32 : BitVec 32 := 2048#32
  let v0 : BitVec 32 := Scalar.muli arg0 c2048_i32
  let c0_i32 : BitVec 32 := 0#32
  let c1_i32 : BitVec 32 := 1#32
  let arg6 : BitVec 32 := Scf.iv c0_i32 c1_i32 k0_t1
  let c256_i32_303 : BitVec 32 := 256#32
  let v270 : BitVec 32 := Scalar.muli arg6 c256_i32_303
  let v271 : BitVec 32 := Scalar.addi v0 v270
  let c15_i32_304 : BitVec 32 := 15#32
  let v272 : BitVec 32 := Scalar.addi v271 c15_i32_304
  let c0_i32_312 : BitVec 32 := 0#32
  let c0_i32_313 : BitVec 32 := 0#32
  ![v272.toNat, 0, 0]
@[reducible] def k0_t2_loop : Scf.Loop 32 :=
  let c1_i32_104 : BitVec 32 := 1#32
  let c15_i32_105 : BitVec 32 := 15#32
  let v74 : BitVec 32 := Scalar.addi c1_i32_104 c15_i32_105
  let c1_i32_106 : BitVec 32 := 1#32
  ⟨c1_i32_104, v74, c1_i32_106⟩
def k0_off67 (k0_t2 : Fin k0_t2_loop.trips) : Fin 1 → Nat :=
  let c1_i32_104 : BitVec 32 := 1#32
  let c1_i32_106 : BitVec 32 := 1#32
  let arg7 : BitVec 32 := Scf.iv c1_i32_104 c1_i32_106 k0_t2
  let c16_i32 : BitVec 32 := 16#32
  let v75 : BitVec 32 := Scalar.muli arg7 c16_i32
  let c0_i32_108 : BitVec 32 := 0#32
  let v76 : BitVec 32 := Scalar.addi v75 c0_i32_108
  let v80 : Index := Scalar.indexCast v76
  ![v80.toNat]
def k0_off68 (i : grid0.Coords) (k0_t1 : Fin k0_t1_loop.trips) (k0_t2 : Fin k0_t2_loop.trips) : Fin 3 → Nat :=
  let arg0 : BitVec 32 := BitVec.ofNat 32 (i 0).val
  let c2048_i32 : BitVec 32 := 2048#32
  let v0 : BitVec 32 := Scalar.muli arg0 c2048_i32
  let c0_i32 : BitVec 32 := 0#32
  let c1_i32 : BitVec 32 := 1#32
  let arg6 : BitVec 32 := Scf.iv c0_i32 c1_i32 k0_t1
  let c256_i32_109 : BitVec 32 := 256#32
  let v77 : BitVec 32 := Scalar.muli arg6 c256_i32_109
  let v78 : BitVec 32 := Scalar.addi v0 v77
  let c1_i32_104 : BitVec 32 := 1#32
  let c1_i32_106 : BitVec 32 := 1#32
  let arg7 : BitVec 32 := Scf.iv c1_i32_104 c1_i32_106 k0_t2
  let c16_i32 : BitVec 32 := 16#32
  let v75 : BitVec 32 := Scalar.muli arg7 c16_i32
  let c0_i32_108 : BitVec 32 := 0#32
  let v76 : BitVec 32 := Scalar.addi v75 c0_i32_108
  let v79 : BitVec 32 := Scalar.addi v78 v76
  let c0_i32_111 : BitVec 32 := 0#32
  let c0_i32_112 : BitVec 32 := 0#32
  ![v79.toNat, 0, 0]
def k0_off69 (v81 : BitVec 32) : Fin 3 → Nat :=
  let c0_i32_113 : BitVec 32 := 0#32
  let c0_i32_114 : BitVec 32 := 0#32
  ![v81.toNat, 0, 0]

def k0_chk33 (v81 : BitVec 32) : Prop :=
  (∀ a, (k0_off69 v81) a + S1x32x768.size a ≤ S1000x32x768.size a)
theorem k0_off69_inb : ∀ (v81 : BitVec 32) (k0_hw33 : k0_chk33 v81), ∀ a, (k0_off69 v81) a + S1x32x768.size a ≤ S1000x32x768.size a := fun v81 k0_hw33 => k0_hw33

def k0_off70 (i : grid0.Coords) (k0_t1 : Fin k0_t1_loop.trips) (k0_t2 : Fin k0_t2_loop.trips) (c0_i32_108 : BitVec 32) : Fin 3 → Nat :=
  let arg0 : BitVec 32 := BitVec.ofNat 32 (i 0).val
  let c2048_i32 : BitVec 32 := 2048#32
  let v0 : BitVec 32 := Scalar.muli arg0 c2048_i32
  let c0_i32 : BitVec 32 := 0#32
  let c1_i32 : BitVec 32 := 1#32
  let arg6 : BitVec 32 := Scf.iv c0_i32 c1_i32 k0_t1
  let c256_i32_109 : BitVec 32 := 256#32
  let v77 : BitVec 32 := Scalar.muli arg6 c256_i32_109
  let v78 : BitVec 32 := Scalar.addi v0 v77
  let c1_i32_104 : BitVec 32 := 1#32
  let c1_i32_106 : BitVec 32 := 1#32
  let arg7 : BitVec 32 := Scf.iv c1_i32_104 c1_i32_106 k0_t2
  let c16_i32 : BitVec 32 := 16#32
  let v75 : BitVec 32 := Scalar.muli arg7 c16_i32
  let v76 : BitVec 32 := Scalar.addi v75 c0_i32_108
  let v79 : BitVec 32 := Scalar.addi v78 v76
  let c0_i32_116 : BitVec 32 := 0#32
  let c0_i32_117 : BitVec 32 := 0#32
  ![v79.toNat, 0, 0]
def k0_off71 (k0_t2 : Fin k0_t2_loop.trips) : Fin 1 → Nat :=
  let c1_i32_104 : BitVec 32 := 1#32
  let c1_i32_106 : BitVec 32 := 1#32
  let arg7 : BitVec 32 := Scf.iv c1_i32_104 c1_i32_106 k0_t2
  let c16_i32_120 : BitVec 32 := 16#32
  let v90 : BitVec 32 := Scalar.muli arg7 c16_i32_120
  let c1_i32_121 : BitVec 32 := 1#32
  let v91 : BitVec 32 := Scalar.addi v90 c1_i32_121
  let v95 : Index := Scalar.indexCast v91
  ![v95.toNat]
def k0_off72 (v96 : BitVec 32) : Fin 3 → Nat :=
  let c0_i32_126 : BitVec 32 := 0#32
  let c0_i32_127 : BitVec 32 := 0#32
  ![v96.toNat, 0, 0]

def k0_chk34 (v96 : BitVec 32) : Prop :=
  (∀ a, (k0_off72 v96) a + S1x32x768.size a ≤ S1000x32x768.size a)
theorem k0_off72_inb : ∀ (v96 : BitVec 32) (k0_hw34 : k0_chk34 v96), ∀ a, (k0_off72 v96) a + S1x32x768.size a ≤ S1000x32x768.size a := fun v96 k0_hw34 => k0_hw34

def k0_off73 (i : grid0.Coords) (k0_t1 : Fin k0_t1_loop.trips) (k0_t2 : Fin k0_t2_loop.trips) (c1_i32_121 : BitVec 32) : Fin 3 → Nat :=
  let arg0 : BitVec 32 := BitVec.ofNat 32 (i 0).val
  let c2048_i32 : BitVec 32 := 2048#32
  let v0 : BitVec 32 := Scalar.muli arg0 c2048_i32
  let c0_i32 : BitVec 32 := 0#32
  let c1_i32 : BitVec 32 := 1#32
  let arg6 : BitVec 32 := Scf.iv c0_i32 c1_i32 k0_t1
  let c256_i32_122 : BitVec 32 := 256#32
  let v92 : BitVec 32 := Scalar.muli arg6 c256_i32_122
  let v93 : BitVec 32 := Scalar.addi v0 v92
  let c1_i32_104 : BitVec 32 := 1#32
  let c1_i32_106 : BitVec 32 := 1#32
  let arg7 : BitVec 32 := Scf.iv c1_i32_104 c1_i32_106 k0_t2
  let c16_i32_120 : BitVec 32 := 16#32
  let v90 : BitVec 32 := Scalar.muli arg7 c16_i32_120
  let v91 : BitVec 32 := Scalar.addi v90 c1_i32_121
  let v94 : BitVec 32 := Scalar.addi v93 v91
  let c0_i32_129 : BitVec 32 := 0#32
  let c0_i32_130 : BitVec 32 := 0#32
  ![v94.toNat, 0, 0]
def k0_off74 (k0_t2 : Fin k0_t2_loop.trips) : Fin 1 → Nat :=
  let c1_i32_104 : BitVec 32 := 1#32
  let c1_i32_106 : BitVec 32 := 1#32
  let arg7 : BitVec 32 := Scf.iv c1_i32_104 c1_i32_106 k0_t2
  let c16_i32_133 : BitVec 32 := 16#32
  let v105 : BitVec 32 := Scalar.muli arg7 c16_i32_133
  let c2_i32_134 : BitVec 32 := 2#32
  let v106 : BitVec 32 := Scalar.addi v105 c2_i32_134
  let v110 : Index := Scalar.indexCast v106
  ![v110.toNat]
def k0_off75 (v111 : BitVec 32) : Fin 3 → Nat :=
  let c0_i32_139 : BitVec 32 := 0#32
  let c0_i32_140 : BitVec 32 := 0#32
  ![v111.toNat, 0, 0]

def k0_chk35 (v111 : BitVec 32) : Prop :=
  (∀ a, (k0_off75 v111) a + S1x32x768.size a ≤ S1000x32x768.size a)
theorem k0_off75_inb : ∀ (v111 : BitVec 32) (k0_hw35 : k0_chk35 v111), ∀ a, (k0_off75 v111) a + S1x32x768.size a ≤ S1000x32x768.size a := fun v111 k0_hw35 => k0_hw35

def k0_off76 (i : grid0.Coords) (k0_t1 : Fin k0_t1_loop.trips) (k0_t2 : Fin k0_t2_loop.trips) (c2_i32_134 : BitVec 32) : Fin 3 → Nat :=
  let arg0 : BitVec 32 := BitVec.ofNat 32 (i 0).val
  let c2048_i32 : BitVec 32 := 2048#32
  let v0 : BitVec 32 := Scalar.muli arg0 c2048_i32
  let c0_i32 : BitVec 32 := 0#32
  let c1_i32 : BitVec 32 := 1#32
  let arg6 : BitVec 32 := Scf.iv c0_i32 c1_i32 k0_t1
  let c256_i32_135 : BitVec 32 := 256#32
  let v107 : BitVec 32 := Scalar.muli arg6 c256_i32_135
  let v108 : BitVec 32 := Scalar.addi v0 v107
  let c1_i32_104 : BitVec 32 := 1#32
  let c1_i32_106 : BitVec 32 := 1#32
  let arg7 : BitVec 32 := Scf.iv c1_i32_104 c1_i32_106 k0_t2
  let c16_i32_133 : BitVec 32 := 16#32
  let v105 : BitVec 32 := Scalar.muli arg7 c16_i32_133
  let v106 : BitVec 32 := Scalar.addi v105 c2_i32_134
  let v109 : BitVec 32 := Scalar.addi v108 v106
  let c0_i32_142 : BitVec 32 := 0#32
  let c0_i32_143 : BitVec 32 := 0#32
  ![v109.toNat, 0, 0]
def k0_off77 (k0_t2 : Fin k0_t2_loop.trips) : Fin 1 → Nat :=
  let c1_i32_104 : BitVec 32 := 1#32
  let c1_i32_106 : BitVec 32 := 1#32
  let arg7 : BitVec 32 := Scf.iv c1_i32_104 c1_i32_106 k0_t2
  let c16_i32_146 : BitVec 32 := 16#32
  let v120 : BitVec 32 := Scalar.muli arg7 c16_i32_146
  let c3_i32_147 : BitVec 32 := 3#32
  let v121 : BitVec 32 := Scalar.addi v120 c3_i32_147
  let v125 : Index := Scalar.indexCast v121
  ![v125.toNat]
def k0_off78 (v126 : BitVec 32) : Fin 3 → Nat :=
  let c0_i32_152 : BitVec 32 := 0#32
  let c0_i32_153 : BitVec 32 := 0#32
  ![v126.toNat, 0, 0]

def k0_chk36 (v126 : BitVec 32) : Prop :=
  (∀ a, (k0_off78 v126) a + S1x32x768.size a ≤ S1000x32x768.size a)
theorem k0_off78_inb : ∀ (v126 : BitVec 32) (k0_hw36 : k0_chk36 v126), ∀ a, (k0_off78 v126) a + S1x32x768.size a ≤ S1000x32x768.size a := fun v126 k0_hw36 => k0_hw36

def k0_off79 (i : grid0.Coords) (k0_t1 : Fin k0_t1_loop.trips) (k0_t2 : Fin k0_t2_loop.trips) (c3_i32_147 : BitVec 32) : Fin 3 → Nat :=
  let arg0 : BitVec 32 := BitVec.ofNat 32 (i 0).val
  let c2048_i32 : BitVec 32 := 2048#32
  let v0 : BitVec 32 := Scalar.muli arg0 c2048_i32
  let c0_i32 : BitVec 32 := 0#32
  let c1_i32 : BitVec 32 := 1#32
  let arg6 : BitVec 32 := Scf.iv c0_i32 c1_i32 k0_t1
  let c256_i32_148 : BitVec 32 := 256#32
  let v122 : BitVec 32 := Scalar.muli arg6 c256_i32_148
  let v123 : BitVec 32 := Scalar.addi v0 v122
  let c1_i32_104 : BitVec 32 := 1#32
  let c1_i32_106 : BitVec 32 := 1#32
  let arg7 : BitVec 32 := Scf.iv c1_i32_104 c1_i32_106 k0_t2
  let c16_i32_146 : BitVec 32 := 16#32
  let v120 : BitVec 32 := Scalar.muli arg7 c16_i32_146
  let v121 : BitVec 32 := Scalar.addi v120 c3_i32_147
  let v124 : BitVec 32 := Scalar.addi v123 v121
  let c0_i32_155 : BitVec 32 := 0#32
  let c0_i32_156 : BitVec 32 := 0#32
  ![v124.toNat, 0, 0]
def k0_off80 (k0_t2 : Fin k0_t2_loop.trips) : Fin 1 → Nat :=
  let c1_i32_104 : BitVec 32 := 1#32
  let c1_i32_106 : BitVec 32 := 1#32
  let arg7 : BitVec 32 := Scf.iv c1_i32_104 c1_i32_106 k0_t2
  let c16_i32_159 : BitVec 32 := 16#32
  let v135 : BitVec 32 := Scalar.muli arg7 c16_i32_159
  let c4_i32_160 : BitVec 32 := 4#32
  let v136 : BitVec 32 := Scalar.addi v135 c4_i32_160
  let v140 : Index := Scalar.indexCast v136
  ![v140.toNat]
def k0_off81 (v141 : BitVec 32) : Fin 3 → Nat :=
  let c0_i32_165 : BitVec 32 := 0#32
  let c0_i32_166 : BitVec 32 := 0#32
  ![v141.toNat, 0, 0]

def k0_chk37 (v141 : BitVec 32) : Prop :=
  (∀ a, (k0_off81 v141) a + S1x32x768.size a ≤ S1000x32x768.size a)
theorem k0_off81_inb : ∀ (v141 : BitVec 32) (k0_hw37 : k0_chk37 v141), ∀ a, (k0_off81 v141) a + S1x32x768.size a ≤ S1000x32x768.size a := fun v141 k0_hw37 => k0_hw37

def k0_off82 (i : grid0.Coords) (k0_t1 : Fin k0_t1_loop.trips) (k0_t2 : Fin k0_t2_loop.trips) (c4_i32_160 : BitVec 32) : Fin 3 → Nat :=
  let arg0 : BitVec 32 := BitVec.ofNat 32 (i 0).val
  let c2048_i32 : BitVec 32 := 2048#32
  let v0 : BitVec 32 := Scalar.muli arg0 c2048_i32
  let c0_i32 : BitVec 32 := 0#32
  let c1_i32 : BitVec 32 := 1#32
  let arg6 : BitVec 32 := Scf.iv c0_i32 c1_i32 k0_t1
  let c256_i32_161 : BitVec 32 := 256#32
  let v137 : BitVec 32 := Scalar.muli arg6 c256_i32_161
  let v138 : BitVec 32 := Scalar.addi v0 v137
  let c1_i32_104 : BitVec 32 := 1#32
  let c1_i32_106 : BitVec 32 := 1#32
  let arg7 : BitVec 32 := Scf.iv c1_i32_104 c1_i32_106 k0_t2
  let c16_i32_159 : BitVec 32 := 16#32
  let v135 : BitVec 32 := Scalar.muli arg7 c16_i32_159
  let v136 : BitVec 32 := Scalar.addi v135 c4_i32_160
  let v139 : BitVec 32 := Scalar.addi v138 v136
  let c0_i32_168 : BitVec 32 := 0#32
  let c0_i32_169 : BitVec 32 := 0#32
  ![v139.toNat, 0, 0]
def k0_off83 (k0_t2 : Fin k0_t2_loop.trips) : Fin 1 → Nat :=
  let c1_i32_104 : BitVec 32 := 1#32
  let c1_i32_106 : BitVec 32 := 1#32
  let arg7 : BitVec 32 := Scf.iv c1_i32_104 c1_i32_106 k0_t2
  let c16_i32_172 : BitVec 32 := 16#32
  let v150 : BitVec 32 := Scalar.muli arg7 c16_i32_172
  let c5_i32_173 : BitVec 32 := 5#32
  let v151 : BitVec 32 := Scalar.addi v150 c5_i32_173
  let v155 : Index := Scalar.indexCast v151
  ![v155.toNat]
def k0_off84 (v156 : BitVec 32) : Fin 3 → Nat :=
  let c0_i32_178 : BitVec 32 := 0#32
  let c0_i32_179 : BitVec 32 := 0#32
  ![v156.toNat, 0, 0]

def k0_chk38 (v156 : BitVec 32) : Prop :=
  (∀ a, (k0_off84 v156) a + S1x32x768.size a ≤ S1000x32x768.size a)
theorem k0_off84_inb : ∀ (v156 : BitVec 32) (k0_hw38 : k0_chk38 v156), ∀ a, (k0_off84 v156) a + S1x32x768.size a ≤ S1000x32x768.size a := fun v156 k0_hw38 => k0_hw38

def k0_off85 (i : grid0.Coords) (k0_t1 : Fin k0_t1_loop.trips) (k0_t2 : Fin k0_t2_loop.trips) (c5_i32_173 : BitVec 32) : Fin 3 → Nat :=
  let arg0 : BitVec 32 := BitVec.ofNat 32 (i 0).val
  let c2048_i32 : BitVec 32 := 2048#32
  let v0 : BitVec 32 := Scalar.muli arg0 c2048_i32
  let c0_i32 : BitVec 32 := 0#32
  let c1_i32 : BitVec 32 := 1#32
  let arg6 : BitVec 32 := Scf.iv c0_i32 c1_i32 k0_t1
  let c256_i32_174 : BitVec 32 := 256#32
  let v152 : BitVec 32 := Scalar.muli arg6 c256_i32_174
  let v153 : BitVec 32 := Scalar.addi v0 v152
  let c1_i32_104 : BitVec 32 := 1#32
  let c1_i32_106 : BitVec 32 := 1#32
  let arg7 : BitVec 32 := Scf.iv c1_i32_104 c1_i32_106 k0_t2
  let c16_i32_172 : BitVec 32 := 16#32
  let v150 : BitVec 32 := Scalar.muli arg7 c16_i32_172
  let v151 : BitVec 32 := Scalar.addi v150 c5_i32_173
  let v154 : BitVec 32 := Scalar.addi v153 v151
  let c0_i32_181 : BitVec 32 := 0#32
  let c0_i32_182 : BitVec 32 := 0#32
  ![v154.toNat, 0, 0]
def k0_off86 (k0_t2 : Fin k0_t2_loop.trips) : Fin 1 → Nat :=
  let c1_i32_104 : BitVec 32 := 1#32
  let c1_i32_106 : BitVec 32 := 1#32
  let arg7 : BitVec 32 := Scf.iv c1_i32_104 c1_i32_106 k0_t2
  let c16_i32_185 : BitVec 32 := 16#32
  let v165 : BitVec 32 := Scalar.muli arg7 c16_i32_185
  let c6_i32_186 : BitVec 32 := 6#32
  let v166 : BitVec 32 := Scalar.addi v165 c6_i32_186
  let v170 : Index := Scalar.indexCast v166
  ![v170.toNat]
def k0_off87 (v171 : BitVec 32) : Fin 3 → Nat :=
  let c0_i32_191 : BitVec 32 := 0#32
  let c0_i32_192 : BitVec 32 := 0#32
  ![v171.toNat, 0, 0]

def k0_chk39 (v171 : BitVec 32) : Prop :=
  (∀ a, (k0_off87 v171) a + S1x32x768.size a ≤ S1000x32x768.size a)
theorem k0_off87_inb : ∀ (v171 : BitVec 32) (k0_hw39 : k0_chk39 v171), ∀ a, (k0_off87 v171) a + S1x32x768.size a ≤ S1000x32x768.size a := fun v171 k0_hw39 => k0_hw39

def k0_off88 (i : grid0.Coords) (k0_t1 : Fin k0_t1_loop.trips) (k0_t2 : Fin k0_t2_loop.trips) (c6_i32_186 : BitVec 32) : Fin 3 → Nat :=
  let arg0 : BitVec 32 := BitVec.ofNat 32 (i 0).val
  let c2048_i32 : BitVec 32 := 2048#32
  let v0 : BitVec 32 := Scalar.muli arg0 c2048_i32
  let c0_i32 : BitVec 32 := 0#32
  let c1_i32 : BitVec 32 := 1#32
  let arg6 : BitVec 32 := Scf.iv c0_i32 c1_i32 k0_t1
  let c256_i32_187 : BitVec 32 := 256#32
  let v167 : BitVec 32 := Scalar.muli arg6 c256_i32_187
  let v168 : BitVec 32 := Scalar.addi v0 v167
  let c1_i32_104 : BitVec 32 := 1#32
  let c1_i32_106 : BitVec 32 := 1#32
  let arg7 : BitVec 32 := Scf.iv c1_i32_104 c1_i32_106 k0_t2
  let c16_i32_185 : BitVec 32 := 16#32
  let v165 : BitVec 32 := Scalar.muli arg7 c16_i32_185
  let v166 : BitVec 32 := Scalar.addi v165 c6_i32_186
  let v169 : BitVec 32 := Scalar.addi v168 v166
  let c0_i32_194 : BitVec 32 := 0#32
  let c0_i32_195 : BitVec 32 := 0#32
  ![v169.toNat, 0, 0]
def k0_off89 (k0_t2 : Fin k0_t2_loop.trips) : Fin 1 → Nat :=
  let c1_i32_104 : BitVec 32 := 1#32
  let c1_i32_106 : BitVec 32 := 1#32
  let arg7 : BitVec 32 := Scf.iv c1_i32_104 c1_i32_106 k0_t2
  let c16_i32_198 : BitVec 32 := 16#32
  let v180 : BitVec 32 := Scalar.muli arg7 c16_i32_198
  let c7_i32_199 : BitVec 32 := 7#32
  let v181 : BitVec 32 := Scalar.addi v180 c7_i32_199
  let v185 : Index := Scalar.indexCast v181
  ![v185.toNat]
def k0_off90 (v186 : BitVec 32) : Fin 3 → Nat :=
  let c0_i32_204 : BitVec 32 := 0#32
  let c0_i32_205 : BitVec 32 := 0#32
  ![v186.toNat, 0, 0]

def k0_chk40 (v186 : BitVec 32) : Prop :=
  (∀ a, (k0_off90 v186) a + S1x32x768.size a ≤ S1000x32x768.size a)
theorem k0_off90_inb : ∀ (v186 : BitVec 32) (k0_hw40 : k0_chk40 v186), ∀ a, (k0_off90 v186) a + S1x32x768.size a ≤ S1000x32x768.size a := fun v186 k0_hw40 => k0_hw40

def k0_off91 (i : grid0.Coords) (k0_t1 : Fin k0_t1_loop.trips) (k0_t2 : Fin k0_t2_loop.trips) (c7_i32_199 : BitVec 32) : Fin 3 → Nat :=
  let arg0 : BitVec 32 := BitVec.ofNat 32 (i 0).val
  let c2048_i32 : BitVec 32 := 2048#32
  let v0 : BitVec 32 := Scalar.muli arg0 c2048_i32
  let c0_i32 : BitVec 32 := 0#32
  let c1_i32 : BitVec 32 := 1#32
  let arg6 : BitVec 32 := Scf.iv c0_i32 c1_i32 k0_t1
  let c256_i32_200 : BitVec 32 := 256#32
  let v182 : BitVec 32 := Scalar.muli arg6 c256_i32_200
  let v183 : BitVec 32 := Scalar.addi v0 v182
  let c1_i32_104 : BitVec 32 := 1#32
  let c1_i32_106 : BitVec 32 := 1#32
  let arg7 : BitVec 32 := Scf.iv c1_i32_104 c1_i32_106 k0_t2
  let c16_i32_198 : BitVec 32 := 16#32
  let v180 : BitVec 32 := Scalar.muli arg7 c16_i32_198
  let v181 : BitVec 32 := Scalar.addi v180 c7_i32_199
  let v184 : BitVec 32 := Scalar.addi v183 v181
  let c0_i32_207 : BitVec 32 := 0#32
  let c0_i32_208 : BitVec 32 := 0#32
  ![v184.toNat, 0, 0]
def k0_off92 (k0_t2 : Fin k0_t2_loop.trips) : Fin 1 → Nat :=
  let c1_i32_104 : BitVec 32 := 1#32
  let c1_i32_106 : BitVec 32 := 1#32
  let arg7 : BitVec 32 := Scf.iv c1_i32_104 c1_i32_106 k0_t2
  let c16_i32_211 : BitVec 32 := 16#32
  let v195 : BitVec 32 := Scalar.muli arg7 c16_i32_211
  let c8_i32_212 : BitVec 32 := 8#32
  let v196 : BitVec 32 := Scalar.addi v195 c8_i32_212
  let v200 : Index := Scalar.indexCast v196
  ![v200.toNat]
def k0_off93 (v201 : BitVec 32) : Fin 3 → Nat :=
  let c0_i32_217 : BitVec 32 := 0#32
  let c0_i32_218 : BitVec 32 := 0#32
  ![v201.toNat, 0, 0]

def k0_chk41 (v201 : BitVec 32) : Prop :=
  (∀ a, (k0_off93 v201) a + S1x32x768.size a ≤ S1000x32x768.size a)
theorem k0_off93_inb : ∀ (v201 : BitVec 32) (k0_hw41 : k0_chk41 v201), ∀ a, (k0_off93 v201) a + S1x32x768.size a ≤ S1000x32x768.size a := fun v201 k0_hw41 => k0_hw41

def k0_off94 (i : grid0.Coords) (k0_t1 : Fin k0_t1_loop.trips) (k0_t2 : Fin k0_t2_loop.trips) (c8_i32_212 : BitVec 32) : Fin 3 → Nat :=
  let arg0 : BitVec 32 := BitVec.ofNat 32 (i 0).val
  let c2048_i32 : BitVec 32 := 2048#32
  let v0 : BitVec 32 := Scalar.muli arg0 c2048_i32
  let c0_i32 : BitVec 32 := 0#32
  let c1_i32 : BitVec 32 := 1#32
  let arg6 : BitVec 32 := Scf.iv c0_i32 c1_i32 k0_t1
  let c256_i32_213 : BitVec 32 := 256#32
  let v197 : BitVec 32 := Scalar.muli arg6 c256_i32_213
  let v198 : BitVec 32 := Scalar.addi v0 v197
  let c1_i32_104 : BitVec 32 := 1#32
  let c1_i32_106 : BitVec 32 := 1#32
  let arg7 : BitVec 32 := Scf.iv c1_i32_104 c1_i32_106 k0_t2
  let c16_i32_211 : BitVec 32 := 16#32
  let v195 : BitVec 32 := Scalar.muli arg7 c16_i32_211
  let v196 : BitVec 32 := Scalar.addi v195 c8_i32_212
  let v199 : BitVec 32 := Scalar.addi v198 v196
  let c0_i32_220 : BitVec 32 := 0#32
  let c0_i32_221 : BitVec 32 := 0#32
  ![v199.toNat, 0, 0]
def k0_off95 (k0_t2 : Fin k0_t2_loop.trips) : Fin 1 → Nat :=
  let c1_i32_104 : BitVec 32 := 1#32
  let c1_i32_106 : BitVec 32 := 1#32
  let arg7 : BitVec 32 := Scf.iv c1_i32_104 c1_i32_106 k0_t2
  let c16_i32_224 : BitVec 32 := 16#32
  let v210 : BitVec 32 := Scalar.muli arg7 c16_i32_224
  let c9_i32_225 : BitVec 32 := 9#32
  let v211 : BitVec 32 := Scalar.addi v210 c9_i32_225
  let v215 : Index := Scalar.indexCast v211
  ![v215.toNat]
def k0_off96 (v216 : BitVec 32) : Fin 3 → Nat :=
  let c0_i32_230 : BitVec 32 := 0#32
  let c0_i32_231 : BitVec 32 := 0#32
  ![v216.toNat, 0, 0]

def k0_chk42 (v216 : BitVec 32) : Prop :=
  (∀ a, (k0_off96 v216) a + S1x32x768.size a ≤ S1000x32x768.size a)
theorem k0_off96_inb : ∀ (v216 : BitVec 32) (k0_hw42 : k0_chk42 v216), ∀ a, (k0_off96 v216) a + S1x32x768.size a ≤ S1000x32x768.size a := fun v216 k0_hw42 => k0_hw42

def k0_off97 (i : grid0.Coords) (k0_t1 : Fin k0_t1_loop.trips) (k0_t2 : Fin k0_t2_loop.trips) (c9_i32_225 : BitVec 32) : Fin 3 → Nat :=
  let arg0 : BitVec 32 := BitVec.ofNat 32 (i 0).val
  let c2048_i32 : BitVec 32 := 2048#32
  let v0 : BitVec 32 := Scalar.muli arg0 c2048_i32
  let c0_i32 : BitVec 32 := 0#32
  let c1_i32 : BitVec 32 := 1#32
  let arg6 : BitVec 32 := Scf.iv c0_i32 c1_i32 k0_t1
  let c256_i32_226 : BitVec 32 := 256#32
  let v212 : BitVec 32 := Scalar.muli arg6 c256_i32_226
  let v213 : BitVec 32 := Scalar.addi v0 v212
  let c1_i32_104 : BitVec 32 := 1#32
  let c1_i32_106 : BitVec 32 := 1#32
  let arg7 : BitVec 32 := Scf.iv c1_i32_104 c1_i32_106 k0_t2
  let c16_i32_224 : BitVec 32 := 16#32
  let v210 : BitVec 32 := Scalar.muli arg7 c16_i32_224
  let v211 : BitVec 32 := Scalar.addi v210 c9_i32_225
  let v214 : BitVec 32 := Scalar.addi v213 v211
  let c0_i32_233 : BitVec 32 := 0#32
  let c0_i32_234 : BitVec 32 := 0#32
  ![v214.toNat, 0, 0]
def k0_off98 (k0_t2 : Fin k0_t2_loop.trips) : Fin 1 → Nat :=
  let c1_i32_104 : BitVec 32 := 1#32
  let c1_i32_106 : BitVec 32 := 1#32
  let arg7 : BitVec 32 := Scf.iv c1_i32_104 c1_i32_106 k0_t2
  let c16_i32_237 : BitVec 32 := 16#32
  let v225 : BitVec 32 := Scalar.muli arg7 c16_i32_237
  let c10_i32_238 : BitVec 32 := 10#32
  let v226 : BitVec 32 := Scalar.addi v225 c10_i32_238
  let v230 : Index := Scalar.indexCast v226
  ![v230.toNat]
def k0_off99 (v231 : BitVec 32) : Fin 3 → Nat :=
  let c0_i32_243 : BitVec 32 := 0#32
  let c0_i32_244 : BitVec 32 := 0#32
  ![v231.toNat, 0, 0]

def k0_chk43 (v231 : BitVec 32) : Prop :=
  (∀ a, (k0_off99 v231) a + S1x32x768.size a ≤ S1000x32x768.size a)
theorem k0_off99_inb : ∀ (v231 : BitVec 32) (k0_hw43 : k0_chk43 v231), ∀ a, (k0_off99 v231) a + S1x32x768.size a ≤ S1000x32x768.size a := fun v231 k0_hw43 => k0_hw43

def k0_off100 (i : grid0.Coords) (k0_t1 : Fin k0_t1_loop.trips) (k0_t2 : Fin k0_t2_loop.trips) (c10_i32_238 : BitVec 32) : Fin 3 → Nat :=
  let arg0 : BitVec 32 := BitVec.ofNat 32 (i 0).val
  let c2048_i32 : BitVec 32 := 2048#32
  let v0 : BitVec 32 := Scalar.muli arg0 c2048_i32
  let c0_i32 : BitVec 32 := 0#32
  let c1_i32 : BitVec 32 := 1#32
  let arg6 : BitVec 32 := Scf.iv c0_i32 c1_i32 k0_t1
  let c256_i32_239 : BitVec 32 := 256#32
  let v227 : BitVec 32 := Scalar.muli arg6 c256_i32_239
  let v228 : BitVec 32 := Scalar.addi v0 v227
  let c1_i32_104 : BitVec 32 := 1#32
  let c1_i32_106 : BitVec 32 := 1#32
  let arg7 : BitVec 32 := Scf.iv c1_i32_104 c1_i32_106 k0_t2
  let c16_i32_237 : BitVec 32 := 16#32
  let v225 : BitVec 32 := Scalar.muli arg7 c16_i32_237
  let v226 : BitVec 32 := Scalar.addi v225 c10_i32_238
  let v229 : BitVec 32 := Scalar.addi v228 v226
  let c0_i32_246 : BitVec 32 := 0#32
  let c0_i32_247 : BitVec 32 := 0#32
  ![v229.toNat, 0, 0]
def k0_off101 (k0_t2 : Fin k0_t2_loop.trips) : Fin 1 → Nat :=
  let c1_i32_104 : BitVec 32 := 1#32
  let c1_i32_106 : BitVec 32 := 1#32
  let arg7 : BitVec 32 := Scf.iv c1_i32_104 c1_i32_106 k0_t2
  let c16_i32_250 : BitVec 32 := 16#32
  let v240 : BitVec 32 := Scalar.muli arg7 c16_i32_250
  let c11_i32_251 : BitVec 32 := 11#32
  let v241 : BitVec 32 := Scalar.addi v240 c11_i32_251
  let v245 : Index := Scalar.indexCast v241
  ![v245.toNat]
def k0_off102 (v246 : BitVec 32) : Fin 3 → Nat :=
  let c0_i32_256 : BitVec 32 := 0#32
  let c0_i32_257 : BitVec 32 := 0#32
  ![v246.toNat, 0, 0]

def k0_chk44 (v246 : BitVec 32) : Prop :=
  (∀ a, (k0_off102 v246) a + S1x32x768.size a ≤ S1000x32x768.size a)
theorem k0_off102_inb : ∀ (v246 : BitVec 32) (k0_hw44 : k0_chk44 v246), ∀ a, (k0_off102 v246) a + S1x32x768.size a ≤ S1000x32x768.size a := fun v246 k0_hw44 => k0_hw44

def k0_off103 (i : grid0.Coords) (k0_t1 : Fin k0_t1_loop.trips) (k0_t2 : Fin k0_t2_loop.trips) (c11_i32_251 : BitVec 32) : Fin 3 → Nat :=
  let arg0 : BitVec 32 := BitVec.ofNat 32 (i 0).val
  let c2048_i32 : BitVec 32 := 2048#32
  let v0 : BitVec 32 := Scalar.muli arg0 c2048_i32
  let c0_i32 : BitVec 32 := 0#32
  let c1_i32 : BitVec 32 := 1#32
  let arg6 : BitVec 32 := Scf.iv c0_i32 c1_i32 k0_t1
  let c256_i32_252 : BitVec 32 := 256#32
  let v242 : BitVec 32 := Scalar.muli arg6 c256_i32_252
  let v243 : BitVec 32 := Scalar.addi v0 v242
  let c1_i32_104 : BitVec 32 := 1#32
  let c1_i32_106 : BitVec 32 := 1#32
  let arg7 : BitVec 32 := Scf.iv c1_i32_104 c1_i32_106 k0_t2
  let c16_i32_250 : BitVec 32 := 16#32
  let v240 : BitVec 32 := Scalar.muli arg7 c16_i32_250
  let v241 : BitVec 32 := Scalar.addi v240 c11_i32_251
  let v244 : BitVec 32 := Scalar.addi v243 v241
  let c0_i32_259 : BitVec 32 := 0#32
  let c0_i32_260 : BitVec 32 := 0#32
  ![v244.toNat, 0, 0]
def k0_off104 (k0_t2 : Fin k0_t2_loop.trips) : Fin 1 → Nat :=
  let c1_i32_104 : BitVec 32 := 1#32
  let c1_i32_106 : BitVec 32 := 1#32
  let arg7 : BitVec 32 := Scf.iv c1_i32_104 c1_i32_106 k0_t2
  let c16_i32_263 : BitVec 32 := 16#32
  let v255 : BitVec 32 := Scalar.muli arg7 c16_i32_263
  let c12_i32_264 : BitVec 32 := 12#32
  let v256 : BitVec 32 := Scalar.addi v255 c12_i32_264
  let v260 : Index := Scalar.indexCast v256
  ![v260.toNat]
def k0_off105 (v261 : BitVec 32) : Fin 3 → Nat :=
  let c0_i32_269 : BitVec 32 := 0#32
  let c0_i32_270 : BitVec 32 := 0#32
  ![v261.toNat, 0, 0]

def k0_chk45 (v261 : BitVec 32) : Prop :=
  (∀ a, (k0_off105 v261) a + S1x32x768.size a ≤ S1000x32x768.size a)
theorem k0_off105_inb : ∀ (v261 : BitVec 32) (k0_hw45 : k0_chk45 v261), ∀ a, (k0_off105 v261) a + S1x32x768.size a ≤ S1000x32x768.size a := fun v261 k0_hw45 => k0_hw45

def k0_off106 (i : grid0.Coords) (k0_t1 : Fin k0_t1_loop.trips) (k0_t2 : Fin k0_t2_loop.trips) (c12_i32_264 : BitVec 32) : Fin 3 → Nat :=
  let arg0 : BitVec 32 := BitVec.ofNat 32 (i 0).val
  let c2048_i32 : BitVec 32 := 2048#32
  let v0 : BitVec 32 := Scalar.muli arg0 c2048_i32
  let c0_i32 : BitVec 32 := 0#32
  let c1_i32 : BitVec 32 := 1#32
  let arg6 : BitVec 32 := Scf.iv c0_i32 c1_i32 k0_t1
  let c256_i32_265 : BitVec 32 := 256#32
  let v257 : BitVec 32 := Scalar.muli arg6 c256_i32_265
  let v258 : BitVec 32 := Scalar.addi v0 v257
  let c1_i32_104 : BitVec 32 := 1#32
  let c1_i32_106 : BitVec 32 := 1#32
  let arg7 : BitVec 32 := Scf.iv c1_i32_104 c1_i32_106 k0_t2
  let c16_i32_263 : BitVec 32 := 16#32
  let v255 : BitVec 32 := Scalar.muli arg7 c16_i32_263
  let v256 : BitVec 32 := Scalar.addi v255 c12_i32_264
  let v259 : BitVec 32 := Scalar.addi v258 v256
  let c0_i32_272 : BitVec 32 := 0#32
  let c0_i32_273 : BitVec 32 := 0#32
  ![v259.toNat, 0, 0]
def k0_off107 (k0_t2 : Fin k0_t2_loop.trips) : Fin 1 → Nat :=
  let c1_i32_104 : BitVec 32 := 1#32
  let c1_i32_106 : BitVec 32 := 1#32
  let arg7 : BitVec 32 := Scf.iv c1_i32_104 c1_i32_106 k0_t2
  let c16_i32_276 : BitVec 32 := 16#32
  let v270 : BitVec 32 := Scalar.muli arg7 c16_i32_276
  let c13_i32_277 : BitVec 32 := 13#32
  let v271 : BitVec 32 := Scalar.addi v270 c13_i32_277
  let v275 : Index := Scalar.indexCast v271
  ![v275.toNat]
def k0_off108 (v276 : BitVec 32) : Fin 3 → Nat :=
  let c0_i32_282 : BitVec 32 := 0#32
  let c0_i32_283 : BitVec 32 := 0#32
  ![v276.toNat, 0, 0]

def k0_chk46 (v276 : BitVec 32) : Prop :=
  (∀ a, (k0_off108 v276) a + S1x32x768.size a ≤ S1000x32x768.size a)
theorem k0_off108_inb : ∀ (v276 : BitVec 32) (k0_hw46 : k0_chk46 v276), ∀ a, (k0_off108 v276) a + S1x32x768.size a ≤ S1000x32x768.size a := fun v276 k0_hw46 => k0_hw46

def k0_off109 (i : grid0.Coords) (k0_t1 : Fin k0_t1_loop.trips) (k0_t2 : Fin k0_t2_loop.trips) (c13_i32_277 : BitVec 32) : Fin 3 → Nat :=
  let arg0 : BitVec 32 := BitVec.ofNat 32 (i 0).val
  let c2048_i32 : BitVec 32 := 2048#32
  let v0 : BitVec 32 := Scalar.muli arg0 c2048_i32
  let c0_i32 : BitVec 32 := 0#32
  let c1_i32 : BitVec 32 := 1#32
  let arg6 : BitVec 32 := Scf.iv c0_i32 c1_i32 k0_t1
  let c256_i32_278 : BitVec 32 := 256#32
  let v272 : BitVec 32 := Scalar.muli arg6 c256_i32_278
  let v273 : BitVec 32 := Scalar.addi v0 v272
  let c1_i32_104 : BitVec 32 := 1#32
  let c1_i32_106 : BitVec 32 := 1#32
  let arg7 : BitVec 32 := Scf.iv c1_i32_104 c1_i32_106 k0_t2
  let c16_i32_276 : BitVec 32 := 16#32
  let v270 : BitVec 32 := Scalar.muli arg7 c16_i32_276
  let v271 : BitVec 32 := Scalar.addi v270 c13_i32_277
  let v274 : BitVec 32 := Scalar.addi v273 v271
  let c0_i32_285 : BitVec 32 := 0#32
  let c0_i32_286 : BitVec 32 := 0#32
  ![v274.toNat, 0, 0]
def k0_off110 (k0_t2 : Fin k0_t2_loop.trips) : Fin 1 → Nat :=
  let c1_i32_104 : BitVec 32 := 1#32
  let c1_i32_106 : BitVec 32 := 1#32
  let arg7 : BitVec 32 := Scf.iv c1_i32_104 c1_i32_106 k0_t2
  let c16_i32_289 : BitVec 32 := 16#32
  let v285 : BitVec 32 := Scalar.muli arg7 c16_i32_289
  let c14_i32_290 : BitVec 32 := 14#32
  let v286 : BitVec 32 := Scalar.addi v285 c14_i32_290
  let v290 : Index := Scalar.indexCast v286
  ![v290.toNat]
def k0_off111 (v291 : BitVec 32) : Fin 3 → Nat :=
  let c0_i32_295 : BitVec 32 := 0#32
  let c0_i32_296 : BitVec 32 := 0#32
  ![v291.toNat, 0, 0]

def k0_chk47 (v291 : BitVec 32) : Prop :=
  (∀ a, (k0_off111 v291) a + S1x32x768.size a ≤ S1000x32x768.size a)
theorem k0_off111_inb : ∀ (v291 : BitVec 32) (k0_hw47 : k0_chk47 v291), ∀ a, (k0_off111 v291) a + S1x32x768.size a ≤ S1000x32x768.size a := fun v291 k0_hw47 => k0_hw47

def k0_off112 (i : grid0.Coords) (k0_t1 : Fin k0_t1_loop.trips) (k0_t2 : Fin k0_t2_loop.trips) (c14_i32_290 : BitVec 32) : Fin 3 → Nat :=
  let arg0 : BitVec 32 := BitVec.ofNat 32 (i 0).val
  let c2048_i32 : BitVec 32 := 2048#32
  let v0 : BitVec 32 := Scalar.muli arg0 c2048_i32
  let c0_i32 : BitVec 32 := 0#32
  let c1_i32 : BitVec 32 := 1#32
  let arg6 : BitVec 32 := Scf.iv c0_i32 c1_i32 k0_t1
  let c256_i32_291 : BitVec 32 := 256#32
  let v287 : BitVec 32 := Scalar.muli arg6 c256_i32_291
  let v288 : BitVec 32 := Scalar.addi v0 v287
  let c1_i32_104 : BitVec 32 := 1#32
  let c1_i32_106 : BitVec 32 := 1#32
  let arg7 : BitVec 32 := Scf.iv c1_i32_104 c1_i32_106 k0_t2
  let c16_i32_289 : BitVec 32 := 16#32
  let v285 : BitVec 32 := Scalar.muli arg7 c16_i32_289
  let v286 : BitVec 32 := Scalar.addi v285 c14_i32_290
  let v289 : BitVec 32 := Scalar.addi v288 v286
  let c0_i32_298 : BitVec 32 := 0#32
  let c0_i32_299 : BitVec 32 := 0#32
  ![v289.toNat, 0, 0]
def k0_off113 (k0_t2 : Fin k0_t2_loop.trips) : Fin 1 → Nat :=
  let c1_i32_104 : BitVec 32 := 1#32
  let c1_i32_106 : BitVec 32 := 1#32
  let arg7 : BitVec 32 := Scf.iv c1_i32_104 c1_i32_106 k0_t2
  let c16_i32_302 : BitVec 32 := 16#32
  let v300 : BitVec 32 := Scalar.muli arg7 c16_i32_302
  let c15_i32_303 : BitVec 32 := 15#32
  let v301 : BitVec 32 := Scalar.addi v300 c15_i32_303
  let v305 : Index := Scalar.indexCast v301
  ![v305.toNat]
def k0_off114 (v306 : BitVec 32) : Fin 3 → Nat :=
  let c0_i32_308 : BitVec 32 := 0#32
  let c0_i32_309 : BitVec 32 := 0#32
  ![v306.toNat, 0, 0]

def k0_chk48 (v306 : BitVec 32) : Prop :=
  (∀ a, (k0_off114 v306) a + S1x32x768.size a ≤ S1000x32x768.size a)
theorem k0_off114_inb : ∀ (v306 : BitVec 32) (k0_hw48 : k0_chk48 v306), ∀ a, (k0_off114 v306) a + S1x32x768.size a ≤ S1000x32x768.size a := fun v306 k0_hw48 => k0_hw48

def k0_off115 (i : grid0.Coords) (k0_t1 : Fin k0_t1_loop.trips) (k0_t2 : Fin k0_t2_loop.trips) : Fin 3 → Nat :=
  let arg0 : BitVec 32 := BitVec.ofNat 32 (i 0).val
  let c2048_i32 : BitVec 32 := 2048#32
  let v0 : BitVec 32 := Scalar.muli arg0 c2048_i32
  let c0_i32 : BitVec 32 := 0#32
  let c1_i32 : BitVec 32 := 1#32
  let arg6 : BitVec 32 := Scf.iv c0_i32 c1_i32 k0_t1
  let c256_i32_304 : BitVec 32 := 256#32
  let v302 : BitVec 32 := Scalar.muli arg6 c256_i32_304
  let v303 : BitVec 32 := Scalar.addi v0 v302
  let c1_i32_104 : BitVec 32 := 1#32
  let c1_i32_106 : BitVec 32 := 1#32
  let arg7 : BitVec 32 := Scf.iv c1_i32_104 c1_i32_106 k0_t2
  let c16_i32_302 : BitVec 32 := 16#32
  let v300 : BitVec 32 := Scalar.muli arg7 c16_i32_302
  let c15_i32_303 : BitVec 32 := 15#32
  let v301 : BitVec 32 := Scalar.addi v300 c15_i32_303
  let v304 : BitVec 32 := Scalar.addi v303 v301
  let c0_i32_311 : BitVec 32 := 0#32
  let c0_i32_312 : BitVec 32 := 0#32
  ![v304.toNat, 0, 0]
abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
def k1_off2 (i : grid1.Coords) (c0_i32_5 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v7 : BitVec 32 := Scalar.addi v2 c0_i32_5
  let c0_i32_24_r1 : BitVec 32 := 0#32
  ![v7.toNat, 0]
abbrev scKind : Fin 2 → Kind := fun | 0 => .scScalar | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 0 | 1 => 16 | ⟨_ + 2, h⟩ => absurd h (Nat.not_lt.2 (Nat.le_add_left _ _))
-- ==== Reference.lean ====
abbrev S1000x32x768 : Shape := ⟨3, ![1000, 32, 768]⟩
abbrev S1000x32 : Shape := ⟨2, ![1000, 32]⟩
abbrev S4096 : Shape := ⟨1, ![4096]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4096x32x768 : Shape := ⟨3, ![4096, 32, 768]⟩
abbrev S4096x32 : Shape := ⟨2, ![4096, 32]⟩

abbrev nBuf : Space → Nat
  | .hbm => 49
  | .vmem => 0
  | .smem => 0
  | _ => 0

abbrev bufTy : (tb : Table) → Fin (tcTables nBuf tb) → BufTy
  | .hbm, ⟨0, _⟩ => ⟨S1000x32x768, .f32⟩
  | .hbm, ⟨1, _⟩ => ⟨S1000x32, .i32⟩
  | .hbm, ⟨2, _⟩ => ⟨S4096, .i32⟩
  | .hbm, ⟨3, _⟩ => ⟨S_, .i32⟩
  | .hbm, ⟨4, _⟩ => ⟨S4096, .i32⟩
  | .hbm, ⟨5, _⟩ => ⟨S4096, .i1⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S4096x1, .i32⟩
  | .hbm, ⟨11, _⟩ => ⟨S1, .i32⟩
  | .hbm, ⟨12, _⟩ => ⟨S_, .i32⟩
  | .hbm, ⟨13, _⟩ => ⟨S4096x1, .i32⟩
  | .hbm, ⟨14, _⟩ => ⟨S4096x1, .i1⟩
  | .hbm, ⟨15, _⟩ => ⟨S1x1, .i32⟩
  | .hbm, ⟨16, _⟩ => ⟨S4096x1, .i32⟩
  | .hbm, ⟨17, _⟩ => ⟨S4096x1, .i1⟩
  | .hbm, ⟨18, _⟩ => ⟨S4096x1, .i1⟩
  | .hbm, ⟨19, _⟩ => ⟨S_, .i1⟩
  | .hbm, ⟨20, _⟩ => ⟨S4096, .i1⟩
  | .hbm, ⟨21, _⟩ => ⟨S4096x32x768, .f32⟩
  | .hbm, ⟨22, _⟩ => ⟨S4096x32x768, .i1⟩
  | .hbm, ⟨23, _⟩ => ⟨S_, .f32⟩
  | .hbm, ⟨24, _⟩ => ⟨S4096x32x768, .f32⟩
  | .hbm, ⟨25, _⟩ => ⟨S4096x32x768, .f32⟩
  | .hbm, ⟨26, _⟩ => ⟨S_, .i32⟩
  | .hbm, ⟨27, _⟩ => ⟨S4096, .i32⟩
  | .hbm, ⟨28, _⟩ => ⟨S4096, .i1⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S4096x1, .i32⟩
  | .hbm, ⟨34, _⟩ => ⟨S1, .i32⟩
  | .hbm, ⟨35, _⟩ => ⟨S_, .i32⟩
  | .hbm, ⟨36, _⟩ => ⟨S4096x1, .i32⟩
  | .hbm, ⟨37, _⟩ => ⟨S4096x1, .i1⟩
  | .hbm, ⟨38, _⟩ => ⟨S1x1, .i32⟩
  | .hbm, ⟨39, _⟩ => ⟨S4096x1, .i32⟩
  | .hbm, ⟨40, _⟩ => ⟨S4096x1, .i1⟩
  | .hbm, ⟨41, _⟩ => ⟨S4096x1, .i1⟩
  | .hbm, ⟨42, _⟩ => ⟨S_, .i1⟩
  | .hbm, ⟨43, _⟩ => ⟨S4096, .i1⟩
  | .hbm, ⟨44, _⟩ => ⟨S4096x32, .i32⟩
  | .hbm, ⟨45, _⟩ => ⟨S4096x32, .i1⟩
  | .hbm, ⟨46, _⟩ => ⟨S_, .i32⟩
  | .hbm, ⟨47, _⟩ => ⟨S4096x32, .i32⟩
  | .hbm, ⟨48, _⟩ => ⟨S4096x32, .i32⟩
  | _, _ => ⟨S1000x32x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_call1_c_4 : Ref sig .tc := ⟨.hbm, 46, rfl⟩
abbrev main_call1_v15 : Ref sig .tc := ⟨.hbm, 47, rfl⟩
abbrev main_v1 : Ref sig .tc := ⟨.hbm, 48, rfl⟩

abbrev nD : Nat := 1
abbrev τ : Topo := Topo.v7x

variable {F : FTy → Type} [FloatOps F]
-- ==== Proof.Setup.lean ====
/-
  The set-up of the run: the program as the SparseCore launch theorem takes it, the arrays by name, what the two gathers
  leave in their outputs as plain functions of the arguments, and the precondition read as a bound on the indices.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.ShareLeaves
public import Idealize.ShloMosaic.Lib.ViewIndex
public import proofs.«01_k».proof.Proof.Gen.KernelIdeal
public import proofs.«01_k».proof.Proof.Gen.KernelIdeal.Skeleton

@[expose] public section

noncomputable section

namespace Cert.Proof.Emo

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf pointsTo_leaves)

variable {F : FTy → Type}

/-! ## The program as the launch theorem sees it -/

/-- The labels of the program below its SparseCore calls. -/
abbrev ΛP : Labels := Pipeline.Sig Λ₀ (Fin 0) fun p => (pcfgs (F := F) p).Adm
/-- The two SparseCore calls. -/
abbrev K : SparseCore.Cfg τ sig (ΛP (F := F)) 2 := sc (F := F)
/-- The label table below the calls. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's side conditions on the signature, each decided. -/
theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds beside the transfers' counters. -/
abbrev UH : Type := URounds (GSem nD τ sig) ℕ
abbrev UU : Type := UH × Counters

local notation "𝕄" => MT nD τ sig (HIx 2) (Elt F) ℕ UU ℕ

abbrev EH : Emb UH (MT nD τ sig (HIx 2) (Elt F) ℕ UU ℕ) := embL

/-! ## The arrays -/

abbrev condLoc (d : Dev nD) : Loc nD τ sig := (SparseCore.T d).loc main_arg0
abbrev maskLoc (d : Dev nD) : Loc nD τ sig := (SparseCore.T d).loc main_arg1
abbrev idsLoc (d : Dev nD) : Loc nD τ sig := (SparseCore.T d).loc main_arg2
abbrev padLoc (d : Dev nD) : Loc nD τ sig := (SparseCore.T d).loc main_v0
abbrev hidLoc (d : Dev nD) : Loc nD τ sig := (SparseCore.T d).loc main_v1
abbrev mrowLoc (d : Dev nD) : Loc nD τ sig := (SparseCore.T d).loc main_v2
abbrev resLoc (d : Dev nD) : Loc nD τ sig := (SparseCore.T d).loc main_v3

/-! ## What the gathers compute -/

/-- The row of a table of 1000 rows that an index word names (the word itself when it is below 1000). -/
def rowNo (w : BitVec 32) : Fin 1000 := ⟨w.toNat % 1000, Nat.mod_lt _ (by decide)⟩

theorem rowNo_val {w : BitVec 32} (h : w.toNat < 1000) : (rowNo w).val = w.toNat := Nat.mod_eq_of_lt h

/-- The index list's multi-index at position `n`. -/
def at1 (n : Fin 4096) : S4096.Idx := fun | ⟨0, _⟩ => n

/-- Rows of a table of 1000 slabs `[32, 768]` by a list of 4096 index words. -/
def takeSlabs {α : Type} (x : S1000x32x768.Idx → α) (w : S4096.Idx → BitVec 32) : S4096x32x768.Idx → α :=
  fun i => x fun
    | ⟨0, _⟩ => rowNo (w (at1 (i 0)))
    | ⟨1, _⟩ => i 1
    | ⟨2, _⟩ => i 2

/-- Rows of a table of 1000 rows of 128 words by a list of 4096 index words. -/
def takeRows {α : Type} (x : S1000x128.Idx → α) (w : S4096.Idx → BitVec 32) : S4096x128.Idx → α :=
  fun i => x fun
    | ⟨0, _⟩ => rowNo (w (at1 (i 0)))
    | ⟨1, _⟩ => i 1

/-! ## The launch memory -/

variable (m : (ℓ : Loc nD τ sig) → Buf (Elt F) ℓ)

/-- The launch memory's index list names rows of the tables. -/
def IdsOk : Prop := ∀ (d : Dev nD) (j : S4096.Idx), (m (idsLoc d) j : BitVec 32).toNat < 1000

/-- What the first call leaves in its output. -/
def hidVal (d : Dev nD) : Buf (Elt F) (hidLoc d) := takeSlabs (m (condLoc d)) (m (idsLoc d))

end Cert.Proof.Emo

end
-- ==== Proof.Rows.lean ====
/-
  The row engine's state and its steps. A sequencer copies 2048 slabs of the table into its half of the output, one copy
  per row, with sixteen semaphores in a ring: row `n` goes on semaphore `n % 16`, and before it is issued the copy of row
  `n - 16` is waited for. `St fs w n` says that `w` rows are copied, that `n` are issued, and what the index window holds;
  every step of the program is one lemma here that takes `St` to `St`.
-/
module

public import proofs.«01_k».proof.Proof.Setup

@[expose] public section

set_option maxRecDepth 16384

noncomputable section

namespace Cert.Proof.Emo

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf pointsTo_leaves)

variable {F : FTy → Type}

local notation "𝕄" => MT nD τ sig (HIx 2) (Elt F) ℕ UU ℕ

/-! ## Rows of the output -/

/-- The elements of the output whose row lies in `[a, b)`. -/
def rows (a b : ℕ) : Finset S4096x32x768.Idx := Finset.univ.filter fun i => a ≤ (i 0).val ∧ (i 0).val < b

theorem mem_rows {a b : ℕ} {i : S4096x32x768.Idx} : i ∈ rows a b ↔ a ≤ (i 0).val ∧ (i 0).val < b := by
  simp [rows]

theorem rows_union {a b c : ℕ} (hab : a ≤ b) (hbc : b ≤ c) : rows a b ∪ rows b c = rows a c := by
  ext i; simp only [Finset.mem_union, mem_rows]; omega

theorem rows_disjoint {a b c : ℕ} : Disjoint (rows a b) (rows b c) :=
  Finset.disjoint_left.2 fun i h h' => by rw [mem_rows] at h h'; omega

theorem rows_self {a b : ℕ} (h : b ≤ a) : rows a b = ∅ := by
  ext i; simp only [mem_rows, Finset.notMem_empty, iff_false]; omega

/-- The row window `[1, 32, 768]` at row `r` is row `r`. -/
theorem set_rowSlice {off : Fin 3 → ℕ} (h : ∀ a, off a + S1x32x768.size a ≤ S4096x32x768.size a) {r : ℕ} (ho : off = ![r, 0, 0]) :
    (Rect.unit (s := S4096x32x768) off S1x32x768.size h).set = rows r (r + 1) := by
  subst ho
  ext i
  rw [Rect.mem_set_unit, mem_rows]
  constructor
  · intro hi; exact hi 0
  · intro hi a
    match a with
    | ⟨0, _⟩ => exact hi
    | ⟨1, _⟩ => exact ⟨Nat.zero_le _, by rw [show (![r, 0, 0] : Fin 3 → ℕ) ⟨1, _⟩ = 0 from rfl, Nat.zero_add]; exact (i 1).isLt⟩
    | ⟨2, _⟩ => exact ⟨Nat.zero_le _, by rw [show (![r, 0, 0] : Fin 3 → ℕ) ⟨2, _⟩ = 0 from rfl, Nat.zero_add]; exact (i 2).isLt⟩

/-! ## The thread and its arrays -/

variable (m : (ℓ : Loc nD τ sig) → Buf (Elt F) ℓ) (d : Dev nD) (i : grid0.Coords)

/-- The sequencer the coordinates name. -/
abbrev seqT : Thread nD τ := S d ((i 0).castLE hcore0)

abbrev outW : Memref sig .scScalar .hbm S4096x32x768 .f32 := Memref.whole main_v1_scs
abbrev tabW : Memref sig .scScalar .hbm S1000x32x768 .f32 := Memref.whole main_arg0_scs
abbrev idsW : Memref sig .scScalar .hbm S4096 .i32 := Memref.whole main_arg2_scs
abbrev winW : Memref sig .scScalar .smem S256 .i32 := Memref.whole cc0_scratch0

/-- A row window of the output, and of the table. -/
abbrev outRow (off : Fin 3 → ℕ) (h : ∀ a, off a + S1x32x768.size a ≤ S4096x32x768.size a) : Memref sig .scScalar .hbm S1x32x768 .f32 :=
  outW.slice (Rect.unit (s := S4096x32x768) off S1x32x768.size h) (fun _ => rfl)
abbrev tabRow (off : Fin 3 → ℕ) (h : ∀ a, off a + S1x32x768.size a ≤ S1000x32x768.size a) : Memref sig .scScalar .hbm S1x32x768 .f32 :=
  tabW.slice (Rect.unit (s := S1000x32x768) off S1x32x768.size h) (fun _ => rfl)

/-- The first row of the sequencer's half. -/
def base : ℕ := 2048 * (i 0).val

theorem base_le : base i ≤ 2048 := by
  have h : (i 0).val < 2 := (i 0).isLt
  unfold base; omega

/-- The index word of the half's row `n`. -/
def idw (n : ℕ) : BitVec 32 :=
  m (idsLoc d) (at1 ⟨(base i + n) % 4096, Nat.mod_lt _ (by decide)⟩)

theorem idw_lt (hm : IdsOk m) (n : ℕ) : (idw m d i n).toNat < 1000 := hm d _

/-- What the index window holds after chunk `t` is fetched: the chunk's 256 index words. -/
def chunk (t : ℕ) : S256.Idx → BitVec 32 := fun j => idw m d i (256 * t + (j 0).val)

/-- Semaphore `b` of the ring. -/
def slotSem (b : Fin 16) : DmaSem sig := ⟨b.val, lt_trans b.isLt (by decide)⟩

/-- The credit of one row's copy: the same at every row. -/
def rowN : ℕ := (outRow ![0, 0, 0] inb_S4096x32x768_S1x32x768_0_0_0).view.dmaCredit

theorem rowN_credit (off : Fin 3 → ℕ) (h) : (outRow off h).view.dmaCredit = rowN := rfl
theorem rowN_amount (b : Fin 16) (off : Fin 3 → ℕ) (h) : (outRow off h).view.amount (.dma (slotSem b)) = rowN := rfl
theorem rowN_pos : 0 < rowN :=
  (rowN_amount 0 ![0, 0, 0] inb_S4096x32x768_S1x32x768_0_0_0) ▸ View.amount_pos _ _ (show 0 < S1x32x768.numel by decide)

/-! ## The state -/

variable (O : CellTallies nD τ sig (HIx 2)) (W : Waits sig (HIx 2)) (q qi : PosShare TreeShare)

/-- The row that semaphore `b` carries next, of the rows from `w` on. -/
def slotRow (w : ℕ) (b : Fin 16) : ℕ := w + (b.val + 16 - w % 16) % 16

/-- Semaphore `b` at rest: its counter at zero, and its share of the table. -/
def idle (b : Fin 16) : sProp 𝕄 :=
  iprop(semVal (seqT d i, SemLoc.dma (slotSem b)) 0 ∗ (condLoc d ↦{leaf 4 q b} m (condLoc d)))

/-- Semaphore `b` with row `r`'s copy outstanding: the copy returns the row with its value, and the part of the table
    that it reads. -/
def inFl (b : Fin 16) (r : ℕ) : sProp 𝕄 :=
  iprop(∃ X : Finset S1000x32x768.Idx,
    Transfers.Flight countersEmb (seqT d i) (SemLoc.dma (slotSem b)) (none : HIx 2) rowN
        iprop((hidLoc d ↦[rows (base i + r) (base i + r + 1)]{fullShare} hidVal m d) ∗ (condLoc d ↦[X]{leaf 4 q b} m (condLoc d)))
      ∗ (condLoc d ↦[Finset.univ \ X]{leaf 4 q b} m (condLoc d)))

/-- Semaphore `b` when `w` rows are waited for and `n` issued. -/
def slotSt (w n : ℕ) (b : Fin 16) : sProp 𝕄 :=
  if slotRow w b < n then inFl m d i q b (slotRow w b) else idle m d i q b

/-- What no step changes but the fetch of a chunk: the evidence for waits, the index window's contents, the index list's
    share, and the fetch's semaphore at zero. -/
def fixed (fs : S256.Idx → BitVec 32) : sProp 𝕄 :=
  iprop(Transfers.MayWaits (seqT d i) (none : HIx 2) O
    ∗ ((seqT d i).loc cc0_scratch0 ↦{fullShare} (fs : Buf (Elt F) ((seqT d i).loc cc0_scratch0)))
    ∗ (idsLoc d ↦{qi} m (idsLoc d))
    ∗ semVal (seqT d i, SemLoc.dma cc0_scoped0.sem) 0)

/-- What the sequencer owes: `O`, with the waits of its own beyond `W`. -/
def debts : sProp 𝕄 := iprop(∃ W', ⌜∀ p ∈ W', p ∈ W ∨ p.2 = none⌝ ∗ owes (seqT d i) O W')

/-- The state with `w` rows copied and `n` rows issued. -/
def St (fs : S256.Idx → BitVec 32) (w n : ℕ) : sProp 𝕄 :=
  iprop(fixed m d i O qi fs ∗ debts d i O W
    ∗ (hidLoc d ↦[rows (base i) (base i + w)]{fullShare} hidVal m d)
    ∗ (hidLoc d ↦[rows (base i + n) (base i + 2048)]{fullShare} m (hidLoc d))
    ∗ bigSep Finset.univ (slotSt m d i q w n))

/-- Two neighbouring blocks of the output's rows are one block. -/
theorem hid_rows {a b c : ℕ} (hab : a ≤ b) (hbc : b ≤ c) (f : Buf (Elt F) (hidLoc d)) :
    (hidLoc d ↦[rows a c]{fullShare} f : sProp 𝕄) = iprop((hidLoc d ↦[rows a b]{fullShare} f) ∗ (hidLoc d ↦[rows b c]{fullShare} f)) := by
  have h := pointsTo_union (Ix := HIx 2) (Val := Elt F) (Name := ℕ) (U := UU) (Lvl := ℕ) (ℓ := hidLoc d) (q := fullShare) (f := f) (I := rows a b) (J := rows b c) rows_disjoint
  rw [← rows_union hab hbc]
  exact Entails.antisymm h.1 h.2

/-- A share of the table, cut at any set of its elements. -/
theorem cond_cut (X : Finset S1000x32x768.Idx) (q : PosShare TreeShare) (f : Buf (Elt F) (condLoc d)) :
    (condLoc d ↦{q} f : sProp 𝕄) = iprop((condLoc d ↦[X]{q} f) ∗ (condLoc d ↦[Finset.univ \ X]{q} f)) := by
  have h := pointsTo_split_subset (Ix := HIx 2) (Val := Elt F) (Name := ℕ) (U := UU) (Lvl := ℕ) (ℓ := condLoc d) (q := q) (f := f) (I := X) (S := Finset.univ) (Finset.subset_univ _)
  exact Entails.antisymm h.1 h.2

/-! ## The ring -/

/-- The semaphore of row `n`. -/
def ring (n : ℕ) : Fin 16 := ⟨n % 16, Nat.mod_lt _ (by decide)⟩

theorem slotRow_ring (w : ℕ) : slotRow w (ring w) = w := by unfold slotRow ring; simp only; omega

theorem slotRow_ring_of (w n : ℕ) (h : w ≤ n) (h' : n < w + 16) : slotRow w (ring n) = n := by unfold slotRow ring; simp only; omega

theorem slotSt_wait_self {w n : ℕ} (h : n ≤ w + 16) : slotSt m d i q (w + 1) n (ring w) = idle m d i q (ring w) :=
  if_neg (by unfold slotRow ring; simp only; omega)

theorem slotSt_wait_ne {w n : ℕ} {b : Fin 16} (h : b ≠ ring w) : slotSt m d i q (w + 1) n b = slotSt m d i q w n b := by
  have hb : b.val ≠ w % 16 := fun e => h (Fin.ext e)
  have hb16 := b.isLt
  have : slotRow (w + 1) b = slotRow w b := by unfold slotRow; omega
  unfold slotSt; rw [this]

theorem slotSt_issue_ne {w n : ℕ} {b : Fin 16} (h : b ≠ ring n) : slotSt m d i q w (n + 1) b = slotSt m d i q w n b := by
  have hb : b.val ≠ n % 16 := fun e => h (Fin.ext e)
  have hb16 := b.isLt
  have : slotRow w b < n + 1 ↔ slotRow w b < n := by unfold slotRow; omega
  unfold slotSt; simp only [this]

/-- A row's worth of the ring taken out: the row's semaphore, and the others. -/
theorem ring_out (Φ : Fin 16 → sProp 𝕄) (b : Fin 16) :
    bigSep Finset.univ Φ = iprop(Φ b ∗ bigSep (Finset.univ.erase b) Φ) :=
  SparseCore.bigSep_erase' (Finset.mem_univ b)

variable [FloatOps F]

/-- A program of the sequencer. -/
abbrev SProg (α : Type) : Type 1 := Prog (TpuEff nD τ sig (Elt F) Λ₀ (.scScalar ((i 0).castLE hcore0))) α

/-- The weakest precondition of a program of the sequencer. -/
abbrev wpS {α : Type} (p : SProg (F := F) i α) (Q : α → sProp 𝕄) : sProp 𝕄 :=
  wp frame (wpE (defs₀ (F := F)) 𝒱₀ (seqT d i) none) Set.univ p Q

/-- The semaphore the program names at position `b` of the ring is the ring's. -/
theorem ring_sem (b : ℕ) (hb : b < 16) (h : ∀ a, (![b] : Fin 1 → ℕ) a + S1.size a ≤ S16.size a) (n : ℕ) (hn : n % 16 = b) :
    ((cc0_scratch1.slice (Rect.unit (s := S16) ![b] S1.size h)).squeeze S_ squeezes_S1_S_).sem = slotSem (ring n) := by
  have key : ∀ b : Fin 16, ((cc0_scratch1.slice (Rect.unit (s := S16) ![b.val] S1.size (fun a => by match a with | ⟨0, _⟩ => exact b.isLt))).squeeze S_ squeezes_S1_S_).sem = slotSem b := by
    decide
  exact (key ⟨b, hb⟩).trans (congrArg slotSem (Fin.ext hn.symm))

/-- The check that an index word's slab lies in the table. -/
theorem slab_inb (hm : IdsOk m) (n : ℕ) : ∀ a, (![(idw m d i n).toNat, 0, 0] : Fin 3 → ℕ) a + S1x32x768.size a ≤ S1000x32x768.size a := by
  have hn := idw_lt m d i hm n
  intro a
  match a with
  | ⟨0, _⟩ => show (idw m d i n).toNat + 1 ≤ 1000; omega
  | ⟨1, _⟩ => exact le_refl 32
  | ⟨2, _⟩ => exact le_refl 768

/-! ## The steps -/

section Steps

variable {m d i O W q qi}

variable {α : Type} {w n : ℕ}

/-- A word of the index window: the index word of the row that is next to be issued. -/
theorem step_load {Φ : α → sProp 𝕄} {t g : ℕ} {off : Fin 1 → ℕ} {h : ∀ a, off a + S1.size a ≤ S256.size a}
    {h1 : (Rect.unit (s := S256) off S1.size h).shape.numel = 1} {h2 : EltTy.i32.packing = 1}
    {k : Elt F .i32 → SProg (F := F) i α} (ho : off = ![g] := by first | exact ClosedOff.eq | rfl) (hg : 256 * t + g = n := by omega)
    (hk : St m d i O W q qi (chunk m d i t) w n ⊢ wpS d i (k (idw m d i n)) Φ) :
    St m d i O W q qi (chunk m d i t) w n
      ⊢ wpS d i (smemLoad winW (Rect.unit (s := S256) off S1.size h) h1 h2 >>= k) Φ := by
  subst ho hg
  have hv : (winW.access (Rect.unit (s := S256) ![g] S1.size h)).read (Elt F) (chunk m d i t : Buf (Elt F) ((seqT d i).loc cc0_scratch0))
      (Shape.Idx.first (h1.symm ▸ Nat.one_pos)) = idw m d i (256 * t + g) := by
    rfl
  rw [← hv] at hk
  have hl := wp_smemLoadElt (defs := defs₀ (F := F)) 𝒱₀ (seqT d i) none (Γ := .empty) Set.univ (Q := Φ) (m := winW) (r := Rect.unit (s := S256) ![g] S1.size h)
    (hw := View.loads_smem_one h2 h1) (x := Shape.Idx.first (h1.symm ▸ Nat.one_pos)) (k := k) (S := Finset.univ) (q := fullShare)
    (f := (chunk m d i t : Buf (Elt F) ((seqT d i).loc cc0_scratch0))) (Finset.subset_univ _)
  change _ ⊢ wp frame (wpE (defs₀ (F := F)) 𝒱₀ (seqT d i) none) Set.univ (smemLoadElt winW (Rect.unit (s := S256) ![g] S1.size h) (View.loads_smem_one h2 h1) (Shape.Idx.first (h1.symm ▸ Nat.one_pos)) k) Φ
  unfold St fixed at hk ⊢
  iintro ⟨⟨Hmw, Hwin, Hids, Hs⟩, Hrest⟩
  iapply hl $$ Hwin
  iintro Hwin
  iapply hk
  isplitr [Hrest]
  · isplitl [Hmw]; · iexact Hmw
    isplitl [Hwin]; · iexact Hwin
    isplitl [Hids]; · iexact Hids
    iexact Hs
  · iexact Hrest

/-- The same load as a part's last step. -/
theorem step_load_last {Φ : Elt F .i32 → sProp 𝕄} {t g : ℕ} {off : Fin 1 → ℕ} {h : ∀ a, off a + S1.size a ≤ S256.size a}
    {h1 : (Rect.unit (s := S256) off S1.size h).shape.numel = 1} {h2 : EltTy.i32.packing = 1}
    (ho : off = ![g] := by first | exact ClosedOff.eq | rfl) (hg : 256 * t + g = n := by omega)
    (hk : St m d i O W q qi (chunk m d i t) w n ⊢ Φ (idw m d i n)) :
    St m d i O W q qi (chunk m d i t) w n
      ⊢ wpS d i (smemLoad winW (Rect.unit (s := S256) off S1.size h) h1 h2) Φ :=
  step_load (h1 := h1) (h2 := h2) (k := Prog.ret) ho hg (hk.trans (le_wp_ret frame _ Set.univ _ Φ))

/-- The check on an index word, which names a row of the table. -/
theorem step_assume {Φ : α → sProp 𝕄} {fs : S256.Idx → BitVec 32} {P : Prop} {D : Decidable P} {k : PLift P → SProg (F := F) i α} (hP : P := by first | exact slab_inb _ _ _ (by assumption) _ | exact fun _ => slab_inb _ _ _ (by assumption) _)
    (hk : St m d i O W q qi fs w n ⊢ wpS d i (k ⟨hP⟩) Φ) :
    St m d i O W q qi fs w n ⊢ wpS d i (Prog.lift (TpuEff.assume P D) >>= k) Φ :=
  hk.trans (wp_assume (k := k) 𝒱₀ (seqT d i) none Set.univ hP)

/-- The wait for the oldest row outstanding. -/
theorem step_wait {Φ : α → sProp 𝕄} {fs : S256.Idx → BitVec 32} {sm : DmaSem sig} {s' : Shape} {e' : EltTy}
    {off : Fin 3 → ℕ} {h : ∀ a, off a + S1x32x768.size a ≤ S4096x32x768.size a}
    {srcw : Memref sig .scScalar .hbm s' e'} {hsrc : srcw.view.WordExact} {hdst : (outRow off h).view.WordExact} {k : PUnit → SProg (F := F) i α}
    (hs : sm = slotSem (ring w) := by exact ring_sem _ (by decide) _ _ (by omega)) (hwn : w < n := by omega) (hnw : n ≤ w + 16 := by omega)
    (hk : St m d i O W q qi fs (w + 1) n ⊢ wpS d i (k ⟨⟩) Φ) :
    St m d i O W q qi fs w n ⊢ wpS d i (Prog.lift (TpuEff.waitDma2 sm srcw (outRow off h) hsrc hdst) >>= k) Φ := by
  subst hs
  have hslot : slotSt m d i q w n (ring w) = inFl m d i q (ring w) w := by
    unfold slotSt; rw [slotRow_ring, if_pos hwn]
  have hrest : bigSep (Finset.univ.erase (ring w)) (slotSt m d i q w n) = bigSep (Finset.univ.erase (ring w)) (slotSt m d i q (w + 1) n) :=
    bigSep_congr fun b hb => (slotSt_wait_ne m d i q (Finset.ne_of_mem_erase hb)).symm
  have hwait := fun (X : Finset S1000x32x768.Idx) (W' : Waits sig (HIx 2)) => Transfers.wp_waitLocalO (defs := defs₀ (F := F)) countersEmb 𝒱₀ (seqT d i) none (Q := Φ) (none : HIx 2) (k := k) (srcw := srcw)
    (dstw := outRow off h) (hsrc := hsrc) (hdst := hdst) (sem := slotSem (ring w)) (rowN_credit off h)
    (D := iprop((hidLoc d ↦[rows (base i + w) (base i + w + 1)]{fullShare} hidVal m d) ∗ (condLoc d ↦[X]{leaf 4 q (ring w)} m (condLoc d)))) (O := O) (W := W')
  change _ ⊢ wp frame (wpE (defs₀ (F := F)) 𝒱₀ (seqT d i) none) Set.univ (.op (TpuEff.waitDma2 (slotSem (ring w)) srcw (outRow off h) hsrc hdst) k) Φ
  unfold St fixed debts at hk ⊢
  rw [ring_out _ (ring w), hslot, hrest]
  rw [ring_out _ (ring w), slotSt_wait_self m d i q hnw] at hk
  unfold inFl
  iintro ⟨⟨#Hmw, Hwin, Hids, Hs⟩, ⟨%W', %hW', HO⟩, Hdone, Htodo, ⟨%X, Hfl, Hx⟩, Hring⟩
  ihave Hm := (Transfers.MayWaits.elim (SemLoc.dma (slotSem (ring w)))) $$ Hmw
  iapply (hwait X W') $$ [Hfl HO Hm]
  · isplitl [Hfl]; · iexact Hfl
    isplitl [HO]; · iexact HO
    iexact Hm
  iintro ⟨⟨Hrow, Hx'⟩, Hsem, HO⟩
  iapply hk
  isplitl [Hwin Hids Hs]
  · isplitr; · iexact Hmw
    isplitl [Hwin]; · iexact Hwin
    isplitl [Hids]; · iexact Hids
    iexact Hs
  isplitl [HO]
  · iexists (insert (SemLoc.dma (slotSem (ring w)), (none : HIx 2)) W'); isplitr
    · ipureintro; intro p hp
      rcases Finset.mem_insert.mp hp with hp | hp
      · exact .inr (hp ▸ rfl)
      · exact hW' p hp
    · iexact HO
  isplitl [Hdone Hrow]
  · iapply (Entails.of_eq (hid_rows (a := base i) (b := base i + w) (c := base i + (w + 1)) d (by omega) (by omega) (hidVal m d)).symm)
    isplitl [Hdone]; · iexact Hdone
    iexact Hrow
  isplitl [Htodo]; · iexact Htodo
  isplitl [Hsem Hx Hx']
  · unfold idle
    isplitl [Hsem]; · iexact Hsem
    iapply (Entails.of_eq (cond_cut d X _ _).symm)
    isplitl [Hx']; · iexact Hx'
    iexact Hx
  · iexact Hring

/-- What a row's copy writes is the row's value: the slab of the table that the row's index word names. -/
theorem row_value (hm : IdsOk m) (n : ℕ) (hn : n < 2048) {off off' : Fin 3 → ℕ}
    (h : ∀ a, off a + S1x32x768.size a ≤ S1000x32x768.size a) (h' : ∀ a, off' a + S1x32x768.size a ≤ S4096x32x768.size a)
    (ho : off = ![(idw m d i n).toNat, 0, 0]) (ho' : off' = ![base i + n, 0, 0])
    (j : S4096x32x768.Idx) (hj : j ∈ rows (base i + n) (base i + n + 1)) :
    (outRow off' h').view.write (Elt F) (m (hidLoc d)) ((tabRow off h).view.read (Elt F) (m (condLoc d))) Finset.univ j = hidVal m d j := by
  subst ho ho'
  rw [mem_rows] at hj
  obtain ⟨x, hx⟩ : ∃ x : S1x32x768.Idx, (outRow ![base i + n, 0, 0] h').view.emb x = j :=
    ⟨fun | ⟨0, _⟩ => ⟨0, Nat.one_pos⟩ | ⟨1, _⟩ => j 1 | ⟨2, _⟩ => j 2,
      Shape.idx3_ext
        (by show base i + n + 1 * 0 = (j 0).val; omega)
        (by show 0 + 1 * (j 1).val = (j 1).val; omega)
        (by show 0 + 1 * (j 2).val = (j 2).val; omega)⟩
  subst hx
  rw [View.write_emb_of_mem _ _ (Finset.mem_univ x), View.read_apply]
  have hx0 : (x 0).val = 0 := Nat.lt_one_iff.1 (x 0).isLt
  have hb := base_le i
  have hw : (m (idsLoc d) (at1 (((outRow ![base i + n, 0, 0] h').view.emb x) 0)) : BitVec 32) = idw m d i n := by
    unfold idw
    refine congrArg (m (idsLoc d)) (Shape.idx1_ext ?_)
    show base i + n + 1 * (x 0).val = (base i + n) % 4096
    rw [hx0, Nat.mod_eq_of_lt (by omega)]; omega
  show m (condLoc d) _ = takeSlabs (m (condLoc d)) (m (idsLoc d)) _
  unfold takeSlabs
  refine congrArg (m (condLoc d)) (Shape.idx3_ext ?_ ?_ ?_)
  · show (idw m d i n).toNat + 1 * (x 0).val = (rowNo _).val
    rw [hx0]
    refine Eq.trans ?_ (congrArg (fun w : BitVec 32 => (rowNo w).val) hw.symm)
    show _ = (rowNo (idw m d i n)).val
    rw [rowNo_val (idw_lt m d i hm n)]; omega
  · rfl
  · rfl

/-- The issue of the next row. -/
theorem step_issue {Φ : α → sProp 𝕄} {fs : S256.Idx → BitVec 32} {sm : DmaSem sig} {off off' : Fin 3 → ℕ}
    {h : ∀ a, off a + S1x32x768.size a ≤ S1000x32x768.size a} {h' : ∀ a, off' a + S1x32x768.size a ≤ S4096x32x768.size a}
    {hsrc : (tabRow off h).view.WordExact} {hdst : (outRow off' h').view.WordExact}
    {hsem : (DmaTarget.here (outRow off' h') : DmaTarget nD τ sig (.scScalar ((i 0).castLE hcore0)) Space.hbm S1x32x768 .f32).Typed Space.hbm (SemLoc.dma sm)} {k : PUnit → SProg (F := F) i α}
    (hm : IdsOk m := by assumption) (hs : sm = slotSem (ring n) := by exact ring_sem _ (by decide) _ _ (by omega))
    (hwn : w ≤ n := by omega) (hnw : n < w + 16 := by omega) (hn : n < 2048 := by omega)
    (ho : off = ![(idw m d i n).toNat, 0, 0] := by rfl) {r : ℕ} (ho' : off' = ![r, 0, 0] := by exact ClosedOff.eq)
    (hr : r = base i + n := by unfold base; omega)
    (hk : St m d i O W q qi fs w (n + 1) ⊢ wpS d i (k ⟨⟩) Φ) :
    St m d i O W q qi fs w n
      ⊢ wpS d i (Prog.lift (TpuEff.enqueueDma (tabRow off h) (.here (outRow off' h')) (.dma sm) hsrc hdst hsem) >>= k) Φ := by
  subst hs hr
  have hrow := slotRow_ring_of w n hwn hnw
  have hslot : slotSt m d i q w n (ring n) = idle m d i q (ring n) := by
    unfold slotSt; rw [hrow, if_neg (Nat.lt_irrefl n)]
  have hslot' : slotSt m d i q w (n + 1) (ring n) = inFl m d i q (ring n) n := by
    unfold slotSt; rw [hrow, if_pos (Nat.lt_succ_self n)]
  have hrest : bigSep (Finset.univ.erase (ring n)) (slotSt m d i q w n) = bigSep (Finset.univ.erase (ring n)) (slotSt m d i q w (n + 1)) :=
    bigSep_congr fun b hb => (slotSt_issue_ne m d i q (Finset.ne_of_mem_erase hb)).symm
  have hset : (outRow off' h').view.set = rows (base i + n) (base i + n + 1) :=
    (View.set_slice_whole _ _).trans (set_rowSlice h' ho')
  have hdma := Transfers.wp_dmaLocal (defs := defs₀ (F := F)) countersEmb 𝒱₀ (seqT d i) none (Q := Φ) (none : HIx 2) rowN
    (k := k) (src := tabRow off h) (via := .same) (dst := outRow off' h') (sm := SemLoc.dma (slotSem (ring n))) (hsrc := hsrc) (hdst := hdst) (hsem := hsem)
    (q := leaf 4 q (ring n)) (fs := m (condLoc d)) (fd := m (hidLoc d)) (Sd := (outRow off' h').view.set)
    (rowN_amount _ _ _) rowN_pos (Finset.Subset.refl _)
  change _ ⊢ wp frame (wpE (defs₀ (F := F)) 𝒱₀ (seqT d i) none) Set.univ (.op (TpuEff.enqueueDma (tabRow off h) (.here (outRow off' h')) (.dma (slotSem (ring n))) hsrc hdst hsem) k) Φ
  unfold St fixed debts at hk ⊢
  rw [ring_out _ (ring n), hslot, hrest, hid_rows (a := base i + n) (b := base i + n + 1) (c := base i + 2048) d (by omega) (by omega)]
  rw [ring_out _ (ring n), hslot'] at hk
  unfold inFl at hk
  unfold idle
  iintro ⟨⟨Hmw, Hwin, Hids, Hs⟩, HO, Hdone, ⟨Hrow, Htodo⟩, ⟨Hsem, Hcond⟩, Hring⟩
  ihave Hcond' := (Entails.of_eq (cond_cut d (tabRow off h).view.set _ _)) $$ Hcond
  icases Hcond' with ⟨Hx, Hx'⟩
  iapply hdma $$ [Hsem Hx Hrow]
  · isplitl [Hx]; · iexact Hx
    isplitl [Hrow]; · rw [hset]; iexact Hrow
    iexact Hsem
  iintro Hfl
  iapply hk
  isplitl [Hmw Hwin Hids Hs]
  · isplitl [Hmw]; · iexact Hmw
    isplitl [Hwin]; · iexact Hwin
    isplitl [Hids]; · iexact Hids
    iexact Hs
  isplitl [HO]; · iexact HO
  isplitl [Hdone]; · iexact Hdone
  isplitl [Htodo]; · iexact Htodo
  isplitr [Hring]
  · iexists (tabRow off h).view.set
    isplitl [Hfl]
    · iapply (Transfers.Flight_mono countersEmb (seqT d i) (sep_mono (Entails.of_eq (by rw [hset]; exact pointsTo_congr fun j hj => row_value hm n hn h h' ho ho' j hj)) .rfl)) $$ Hfl
    · iexact Hx'
  · iexact Hring

/-- What a chunk's fetch leaves in the index window. -/
theorem fetch_value (t : ℕ) (ht : 256 * t + 256 ≤ 2048) {off : Fin 1 → ℕ} (h : ∀ a, off a + S256.size a ≤ S4096.size a)
    (ho : off = ![base i + 256 * t]) (fs : S256.Idx → BitVec 32) :
    winW.view.write (Elt F) (fs : Buf (Elt F) ((seqT d i).loc cc0_scratch0)) ((idsW.slice (Rect.unit (s := S4096) off S256.size h) (fun _ => rfl)).view.read (Elt F) (m (idsLoc d))) Finset.univ
      = (chunk m d i t : Buf (Elt F) ((seqT d i).loc cc0_scratch0)) := by
  subst ho
  have hb := base_le i
  refine (View.write_whole_univ ..).trans (funext fun j => ?_)
  have hj : (j 0).val < 256 := (j 0).isLt
  show m (idsLoc d) _ = idw m d i (256 * t + (j 0).val)
  unfold idw
  refine congrArg (m (idsLoc d)) (Shape.idx1_ext ?_)
  show base i + 256 * t + 1 * (j 0).val = (base i + (256 * t + (j 0).val)) % 4096
  rw [Nat.mod_eq_of_lt (by omega)]; omega

/-- The fetch of a chunk of index words, and the wait for it. -/
theorem step_fetch {Φ : α → sProp 𝕄} {fs : S256.Idx → BitVec 32} {t : ℕ} {off off₂ : Fin 1 → ℕ}
    {h : ∀ a, off a + S256.size a ≤ S4096.size a} {h₂ : ∀ a, off₂ a + S256.size a ≤ S4096.size a}
    {hsrc : (idsW.slice (Rect.unit (s := S4096) off S256.size h) (fun _ => rfl)).view.WordExact} {hdst : (winW).view.WordExact}
    {hsem : (DmaTarget.here winW : DmaTarget nD τ sig (.scScalar ((i 0).castLE hcore0)) Space.smem S256 .i32).Typed Space.hbm (SemLoc.dma cc0_scoped0.sem)}
    {hsrc₂ : (idsW.slice (Rect.unit (s := S4096) off₂ S256.size h₂) (fun _ => rfl)).view.WordExact} {hdst₂ : (winW).view.WordExact}
    {k : PUnit → SProg (F := F) i α}
    (ht : 256 * t + 256 ≤ 2048) (ho : off = ![base i + 256 * t])
    (hk : St m d i O W q qi (chunk m d i t) w n ⊢ wpS d i (k ⟨⟩) Φ) :
    St m d i O W q qi fs w n
      ⊢ wpS d i (Prog.lift (TpuEff.enqueueDma (idsW.slice (Rect.unit (s := S4096) off S256.size h) (fun _ => rfl)) (.here winW) (.dma cc0_scoped0.sem) hsrc hdst hsem)
          >>= fun _ => Prog.lift (TpuEff.waitDma2 cc0_scoped0.sem (idsW.slice (Rect.unit (s := S4096) off₂ S256.size h₂) (fun _ => rfl)) winW hsrc₂ hdst₂) >>= k) Φ := by
  have hdma := Transfers.wp_dmaLocal (defs := defs₀ (F := F)) countersEmb 𝒱₀ (seqT d i) none (Q := Φ) (none : HIx 2) (winW.view.dmaCredit)
    (k := fun _ => Prog.lift (TpuEff.waitDma2 cc0_scoped0.sem (idsW.slice (Rect.unit (s := S4096) off₂ S256.size h₂) (fun _ => rfl)) winW hsrc₂ hdst₂) >>= k)
    (src := idsW.slice (Rect.unit (s := S4096) off S256.size h) (fun _ => rfl)) (via := .same) (dst := winW) (sm := SemLoc.dma cc0_scoped0.sem)
    (hsrc := hsrc) (hdst := hdst) (hsem := hsem) (q := qi) (fs := m (idsLoc d)) (fd := (fs : Buf (Elt F) ((seqT d i).loc cc0_scratch0))) (Sd := Finset.univ)
    rfl (View.amount_pos winW.view (SemLoc.dma cc0_scoped0.sem) (show 0 < S256.numel by decide)) (Finset.subset_univ _)
  have hwait := fun (D : sProp 𝕄) (W' : Waits sig (HIx 2)) => Transfers.wp_waitLocalO (defs := defs₀ (F := F)) countersEmb 𝒱₀ (seqT d i) none (Q := Φ) (none : HIx 2) (k := k)
    (srcw := idsW.slice (Rect.unit (s := S4096) off₂ S256.size h₂) (fun _ => rfl)) (dstw := winW) (hsrc := hsrc₂) (hdst := hdst₂) (sem := cc0_scoped0.sem) (N := winW.view.dmaCredit) rfl
    (D := D) (O := O) (W := W')
  change _ ⊢ wp frame (wpE (defs₀ (F := F)) 𝒱₀ (seqT d i) none) Set.univ
    (.op (TpuEff.enqueueDma (idsW.slice (Rect.unit (s := S4096) off S256.size h) (fun _ => rfl)) (.here winW) (.dma cc0_scoped0.sem) hsrc hdst hsem)
      fun _ => Prog.lift (TpuEff.waitDma2 cc0_scoped0.sem (idsW.slice (Rect.unit (s := S4096) off₂ S256.size h₂) (fun _ => rfl)) winW hsrc₂ hdst₂) >>= k) Φ
  unfold St fixed debts at hk ⊢
  iintro ⟨⟨#Hmw, Hwin, Hids, Hs⟩, ⟨%W', %hW', HO⟩, Hrest⟩
  ihave Hids' := (pointsTo_split_subset (Finset.subset_univ (idsW.slice (Rect.unit (s := S4096) off S256.size h) (fun _ => rfl)).view.set)).1 $$ Hids
  icases Hids' with ⟨Hids, Hids'⟩
  iapply hdma $$ [Hwin Hids Hs]
  · isplitl [Hids]; · iexact Hids
    isplitl [Hwin]; · iexact Hwin
    iexact Hs
  iintro Hfl
  ihave Hm := (Transfers.MayWaits.elim (SemLoc.dma cc0_scoped0.sem)) $$ Hmw
  iapply (hwait _ W') $$ [Hfl HO Hm]
  · isplitl [Hfl]; · iexact Hfl
    isplitl [HO]; · iexact HO
    iexact Hm
  iintro ⟨⟨Hwin, Hids⟩, Hs, HO⟩
  iapply hk
  isplitl [Hwin Hids Hids' Hs]
  · isplitr; · iexact Hmw
    isplitl [Hwin]; · iapply (Entails.of_eq (congrArg (fun f => ((seqT d i).loc cc0_scratch0 ↦{fullShare} f : sProp 𝕄)) (fetch_value (m := m) (d := d) (i := i) t ht h ho fs))) $$ Hwin
    isplitr [Hs]
    · iapply (pointsTo_split_subset (Finset.subset_univ (idsW.slice (Rect.unit (s := S4096) off S256.size h) (fun _ => rfl)).view.set)).2
      isplitl [Hids]; · iexact Hids
      iexact Hids'
    iexact Hs
  isplitl [HO]
  · iexists (insert (SemLoc.dma cc0_scoped0.sem, (none : HIx 2)) W'); isplitr
    · ipureintro; intro p hp
      rcases Finset.mem_insert.mp hp with hp | hp
      · exact .inr (hp ▸ rfl)
      · exact hW' p hp
    · iexact HO
  · iexact Hrest

/-- The end of a part: what holds is handed on. -/
theorem step_ret {Φ : α → sProp 𝕄} {P : sProp 𝕄} {a : α} (h : P ⊢ Φ a) : P ⊢ wpS d i (pure a : SProg (F := F) i α) Φ :=
  h.trans (le_wp_ret frame _ Set.univ a Φ)

/-- A part of the program, then the rest. -/
theorem step_part {β : Type} {Φ : β → sProp 𝕄} {P : sProp 𝕄} {p : SProg (F := F) i α} {k : α → SProg (F := F) i β}
    (h : P ⊢ wpS d i p fun a => wpS d i (k a) Φ) : P ⊢ wpS d i (p >>= k) Φ :=
  h.trans (Entails.of_eq (wp_bind ..).symm)

end Steps

end Cert.Proof.Emo

end
-- ==== Proof.RowsBody.lean ====
/-
  The row engine's program: the inner loop's trip, the outer loop's trip, and the whole body, each as a sequence of the
  steps of `Rows`.
-/
module

public import proofs.«01_k».proof.Proof.Rows

@[expose] public section

set_option maxRecDepth 16384

noncomputable section

namespace Cert.Proof.Emo

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf pointsTo_leaves)

variable {F : FTy → Type} [FloatOps F]

local notation "𝕄" => MT nD τ sig (HIx 2) (Elt F) ℕ UU ℕ

variable (m : (ℓ : Loc nD τ sig) → Buf (Elt F) ℓ) (d : Dev nD) (i : grid0.Coords)
variable (O : CellTallies nD τ sig (HIx 2)) (W : Waits sig (HIx 2)) (q qi : PosShare TreeShare)

/-- One trip of the inner loop: sixteen rows, each one's semaphore waited for and issued again. -/
theorem inner_trip (hm : IdsOk m) (t1 : Fin k0_t1_loop.trips) (t2 : Fin k0_t2_loop.trips) (v0 arg6 : BitVec 32) :
    St m d i O W q qi (chunk m d i t1.val) (256 * t1.val + 16 * t2.val) (256 * t1.val + 16 * t2.val + 16)
      ⊢ wpS d i (k0_t2_body i tabW (Memref.isWhole_whole _) idsW (Memref.isWhole_whole _) outW (Memref.isWhole_whole _) winW (Memref.isWhole_whole _) cc0_scratch1 cc0_scoped0 v0 t1 arg6 t2 ⟨⟩)
          fun _ => St m d i O W q qi (chunk m d i t1.val) (256 * t1.val + 16 * t2.val + 16) (256 * t1.val + 16 * t2.val + 32) := by
  have h1 : t1.val < 8 := t1.isLt
  have h2 : t2.val < 15 := t2.isLt
  unfold k0_t2_body
  refine step_part ?_
  rw [k0_part13_eq_skeleton]; unfold k0_part13_skel; dsimp only
  refine step_load (hk := step_assume (hk := step_wait (hk := step_issue (hk := step_load (hk := step_assume (hk := step_wait (hk := step_ret ?_))))))); try dsimp only
  refine step_part ?_
  rw [k0_part14_eq_skeleton]; unfold k0_part14_skel; dsimp only
  refine step_issue (hk := step_load (hk := step_assume (hk := step_wait (hk := step_issue (hk := step_load (hk := step_assume (hk := step_wait (hk := step_ret ?_)))))))); try dsimp only
  refine step_part ?_
  rw [k0_part15_eq_skeleton]; unfold k0_part15_skel; dsimp only
  refine step_issue (hk := step_load (hk := step_assume (hk := step_wait (hk := step_issue (hk := step_load (hk := step_assume (hk := step_wait (hk := step_ret ?_)))))))); try dsimp only
  refine step_part ?_
  rw [k0_part16_eq_skeleton]; unfold k0_part16_skel; dsimp only
  refine step_issue (hk := step_load (hk := step_assume (hk := step_wait (hk := step_issue (hk := step_load (hk := step_assume (hk := step_wait (hk := step_ret ?_)))))))); try dsimp only
  refine step_part ?_
  rw [k0_part17_eq_skeleton]; unfold k0_part17_skel; dsimp only
  refine step_issue (hk := step_load (hk := step_assume (hk := step_wait (hk := step_issue (hk := step_load (hk := step_assume (hk := step_ret ?_))))))); try dsimp only
  refine step_part ?_
  rw [k0_part18_eq_skeleton]; unfold k0_part18_skel; dsimp only
  refine step_wait (hk := step_issue (hk := step_load (hk := step_assume (hk := step_wait (hk := step_issue (hk := step_load (hk := step_assume (hk := step_ret ?_)))))))); try dsimp only
  refine step_part ?_
  rw [k0_part19_eq_skeleton]; unfold k0_part19_skel; dsimp only
  refine step_wait (hk := step_issue (hk := step_load (hk := step_assume (hk := step_wait (hk := step_issue (hk := step_load (hk := step_assume (hk := step_ret ?_)))))))); try dsimp only
  refine step_part ?_
  rw [k0_part20_eq_skeleton]; unfold k0_part20_skel; dsimp only
  refine step_wait (hk := step_issue (hk := step_load (hk := step_assume (hk := step_wait (hk := step_issue (hk := step_load (hk := step_assume (hk := step_ret ?_)))))))); try dsimp only
  refine step_wait (hk := step_issue (hk := step_ret ?_))
  exact .rfl

/-- The inner loop: the fifteen groups of rows of a chunk after its first. -/
theorem inner_loop (hm : IdsOk m) (t1 : Fin k0_t1_loop.trips) (v0 arg6 : BitVec 32) {α : Type} {Φ : α → sProp 𝕄} {k : Unit → SProg (F := F) i α}
    (hk : St m d i O W q qi (chunk m d i t1.val) (256 * t1.val + 240) (256 * t1.val + 256) ⊢ wpS d i (k ⟨⟩) Φ) :
    St m d i O W q qi (chunk m d i t1.val) (256 * t1.val) (256 * t1.val + 16)
      ⊢ wpS d i (Scf.Loop.for k0_t2_loop k0_t2_ok ⟨⟩ (k0_t2_body i tabW (Memref.isWhole_whole _) idsW (Memref.isWhole_whole _) outW (Memref.isWhole_whole _) winW (Memref.isWhole_whole _) cc0_scratch1 cc0_scoped0 v0 t1 arg6) >>= k) Φ := by
  refine step_part ?_
  refine BI.BIBase.Entails.trans ?_ (Scf.wp_for frame (wpE (defs₀ (F := F)) 𝒱₀ (seqT d i) none) Set.univ _ _ _ k0_t2_ok ⟨⟩ _
    (fun j _ => St m d i O W q qi (chunk m d i t1.val) (256 * t1.val + 16 * j) (256 * t1.val + 16 * j + 16)) (fun t2 _ => inner_trip m d i O W q qi hm t1 t2 v0 arg6))
  iintro H
  isplitl [H]; · iexact H
  iintro %_ H
  iapply hk
  iexact H

/-- One trip of the outer loop: a chunk of 256 index words is fetched and its 256 rows are issued. -/
theorem outer_trip (hm : IdsOk m) (t1 : Fin k0_t1_loop.trips) (v0 : BitVec 32) (fs : S256.Idx → BitVec 32) :
    St m d i O W q qi fs (256 * t1.val - 16) (256 * t1.val)
      ⊢ wpS d i (k0_t1_body i tabW (Memref.isWhole_whole _) idsW (Memref.isWhole_whole _) outW (Memref.isWhole_whole _) winW (Memref.isWhole_whole _) cc0_scratch1 cc0_scoped0 v0 t1 ⟨⟩)
          fun _ => St m d i O W q qi (chunk m d i t1.val) (256 * (t1.val + 1) - 16) (256 * (t1.val + 1)) := by
  have h1 : t1.val < 8 := t1.isLt
  have hc1 : ∀ t : Fin k0_t1_loop.trips, k0_cond1 t = 1#1 ↔ t.val = 0 := by decide +kernel
  have hc2 : ∀ t : Fin k0_t1_loop.trips, k0_cond2 t = 1#1 ↔ t.val ≠ 0 := by decide +kernel
  unfold k0_t1_body
  dsimp only
  refine step_fetch (t := t1.val) (by omega) (ClosedOff.eq) ?_
  by_cases h0 : t1.val = 0
  · rw [dif_pos ((hc1 t1).2 h0), dif_neg fun h => (hc2 t1).1 h h0]
    rw [show 256 * t1.val - 16 = 256 * t1.val from by omega]
    refine step_part ?_
    rw [k0_part1_eq_skeleton]; unfold k0_part1_skel; dsimp only
    refine step_load (hk := step_assume (hk := step_issue (hk := step_load (hk := step_assume (hk := step_issue (hk := step_load (hk := step_assume (hk := ?_))))))))
    refine step_issue (hk := step_ret ?_); try dsimp only
    refine step_part ?_
    rw [k0_part2_eq_skeleton]; unfold k0_part2_skel; dsimp only
    refine step_load (hk := step_assume (hk := step_issue (hk := step_load (hk := step_assume (hk := step_issue (hk := step_load (hk := step_assume (hk := ?_))))))))
    refine step_issue (hk := step_ret ?_); try dsimp only
    refine step_part ?_
    rw [k0_part3_eq_skeleton]; unfold k0_part3_skel; dsimp only
    refine step_load (hk := step_assume (hk := step_issue (hk := step_load (hk := step_assume (hk := step_issue (hk := step_load (hk := step_assume (hk := ?_))))))))
    refine step_issue (hk := step_load (hk := step_assume (hk := step_ret ?_))); try dsimp only
    refine step_part ?_
    rw [k0_part4_eq_skeleton]; unfold k0_part4_skel; dsimp only
    refine step_issue (hk := step_load (hk := step_assume (hk := step_issue (hk := step_load (hk := step_assume (hk := step_issue (hk := step_load (hk := ?_))))))))
    refine step_assume (hk := step_ret ?_); try dsimp only
    refine step_part ?_
    rw [k0_part5_eq_skeleton]; unfold k0_part5_skel; dsimp only
    refine step_issue (hk := step_load (hk := step_assume (hk := step_issue (hk := step_load (hk := step_assume (hk := step_issue (hk := step_load (hk := ?_))))))))
    refine step_assume (hk := step_ret ?_); try dsimp only
    refine step_issue (hk := ?_)
    refine inner_loop m d i O W q qi hm t1 v0 _ (step_ret ?_)
    exact Entails.of_eq (by rw [show 256 * (t1.val + 1) - 16 = 256 * t1.val + 240 from by omega, show 256 * (t1.val + 1) = 256 * t1.val + 256 from rfl])
  · rw [dif_neg fun h => h0 ((hc1 t1).1 h), dif_pos ((hc2 t1).2 h0)]
    have hw : 256 * t1.val - 16 + 16 = 256 * t1.val := by omega
    generalize 256 * t1.val - 16 = w at hw
    refine step_part ?_
    rw [k0_part6_eq_skeleton]; unfold k0_part6_skel; dsimp only
    refine step_load (hk := step_assume (hk := step_wait (hk := step_issue (hk := step_load (hk := step_assume (hk := step_wait (hk := step_issue (hk := step_ret ?_)))))))); try dsimp only
    refine step_part ?_
    rw [k0_part7_eq_skeleton]; unfold k0_part7_skel; dsimp only
    refine step_load (hk := step_assume (hk := step_wait (hk := step_issue (hk := step_load (hk := step_assume (hk := step_wait (hk := step_issue (hk := step_ret ?_)))))))); try dsimp only
    refine step_part ?_
    rw [k0_part8_eq_skeleton]; unfold k0_part8_skel; dsimp only
    refine step_load (hk := step_assume (hk := step_wait (hk := step_issue (hk := step_load (hk := step_assume (hk := step_wait (hk := step_issue (hk := step_ret ?_)))))))); try dsimp only
    refine step_part ?_
    rw [k0_part9_eq_skeleton]; unfold k0_part9_skel; dsimp only
    refine step_load (hk := step_assume (hk := step_wait (hk := step_issue (hk := step_load (hk := step_assume (hk := step_wait (hk := step_issue (hk := ?_))))))))
    refine step_load_last (hk := ?_); try dsimp only
    refine step_part ?_
    rw [k0_part10_eq_skeleton]; unfold k0_part10_skel; dsimp only
    refine step_assume (hk := step_wait (hk := step_issue (hk := step_load (hk := step_assume (hk := step_wait (hk := step_issue (hk := step_load (hk := ?_))))))))
    refine step_assume (hk := step_ret ?_); try dsimp only
    refine step_part ?_
    rw [k0_part11_eq_skeleton]; unfold k0_part11_skel; dsimp only
    refine step_wait (hk := step_issue (hk := step_load (hk := step_assume (hk := step_wait (hk := step_issue (hk := step_load (hk := step_assume (hk := step_ret ?_)))))))); try dsimp only
    refine step_part ?_
    rw [k0_part12_eq_skeleton]; unfold k0_part12_skel; dsimp only
    refine step_wait (hk := step_issue (hk := step_load (hk := step_assume (hk := step_wait (hk := step_issue (hk := step_load (hk := step_assume (hk := step_ret ?_)))))))); try dsimp only
    refine step_wait (hk := step_issue (hk := step_load (hk := step_assume (hk := step_wait (hk := step_issue (hk := ?_))))))
    rw [show w + 1 + 1 + 1 + 1 + 1 + 1 + 1 + 1 + 1 + 1 + 1 + 1 + 1 + 1 + 1 + 1 = 256 * t1.val from hw]
    refine inner_loop m d i O W q qi hm t1 v0 _ (step_ret ?_)
    exact Entails.of_eq (by rw [show 256 * (t1.val + 1) - 16 = 256 * t1.val + 240 from by omega, show 256 * (t1.val + 1) = 256 * t1.val + 256 from rfl])

/-- The outer loop: the eight chunks of the sequencer's half. -/
theorem outer_loop (hm : IdsOk m) (v0 : BitVec 32) {fs : S256.Idx → BitVec 32} {α : Type} {Φ : α → sProp 𝕄} {k : Unit → SProg (F := F) i α}
    (hk : ∀ gs, St m d i O W q qi gs 2032 2048 ⊢ wpS d i (k ⟨⟩) Φ) :
    St m d i O W q qi fs 0 0
      ⊢ wpS d i (Scf.Loop.for k0_t1_loop k0_t1_ok ⟨⟩ (k0_t1_body i tabW (Memref.isWhole_whole _) idsW (Memref.isWhole_whole _) outW (Memref.isWhole_whole _) winW (Memref.isWhole_whole _) cc0_scratch1 cc0_scoped0 v0) >>= k) Φ := by
  refine step_part ?_
  refine BI.BIBase.Entails.trans ?_ (Scf.wp_for frame (wpE (defs₀ (F := F)) 𝒱₀ (seqT d i) none) Set.univ _ _ _ k0_t1_ok ⟨⟩ _
    (fun j _ => iprop(∃ fs, St m d i O W q qi fs (256 * j - 16) (256 * j)))
    (fun t1 _ => exists_elim fun fs => (outer_trip m d i O W q qi hm t1 _ fs).trans (wp_mono frame _ Set.univ fun _ => exists_intro (Φ := fun fs => St m d i O W q qi fs (256 * (t1.val + 1) - 16) (256 * (t1.val + 1))) _)))
  iintro H
  isplitl [H]; · iexists fs; iexact H
  iintro %_ ⟨%gs, H⟩
  iapply (hk gs)
  iexact H

/-- The row engine's whole run: from nothing issued to every row copied. -/
theorem rows_run (hm : IdsOk m) (fs : S256.Idx → BitVec 32) :
    St m d i O W q qi fs 0 0
      ⊢ wpS d i (cc0__rows_body i tabW (Memref.isWhole_whole _) idsW (Memref.isWhole_whole _) outW (Memref.isWhole_whole _) winW (Memref.isWhole_whole _) cc0_scratch1 cc0_scoped0)
          fun _ => iprop(∃ fs, St m d i O W q qi fs 2048 2048) := by
  rw [cc0__rows_body_eq_skeleton]; unfold cc0__rows_body_skel
  refine step_part ?_
  rw [k0_part21_eq_skeleton]; unfold k0_part21_skel; dsimp only
  refine outer_loop m d i O W q qi hm _ fun gs => ?_
  refine step_wait (hk := step_wait (hk := step_wait (hk := step_wait (hk := step_ret ?_))))
  refine step_part ?_
  rw [k0_part22_eq_skeleton]; unfold k0_part22_skel; dsimp only
  refine step_wait (hk := step_wait (hk := step_wait (hk := step_wait (hk := step_wait (hk := step_ret ?_)))))
  refine step_part ?_
  rw [k0_part23_eq_skeleton]; unfold k0_part23_skel; dsimp only
  refine step_wait (hk := step_wait (hk := step_wait (hk := step_wait (hk := step_wait (hk := step_ret ?_)))))
  refine step_wait (hk := step_wait (hk := step_ret ?_))
  exact exists_intro (Φ := fun fs => St m d i O W q qi fs 2048 2048) gs

end Cert.Proof.Emo

end
-- ==== Proof.Scalar.lean ====
/-
  The row engine as the launch asks for it: what a sequencer is handed of the arrays, how its scoped buffers and
  semaphores make the first state of the run, and how the last state gives them back with its half of the output copied.
-/
module

public import proofs.«01_k».proof.Proof.RowsBody

@[expose] public section

set_option maxRecDepth 16384

noncomputable section

namespace Cert.Proof.Emo

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf pointsTo_leaves)

variable {F : FTy → Type}

local notation "𝕄" => MT nD τ sig (HIx 2) (Elt F) ℕ UU ℕ

variable (m : (ℓ : Loc nD τ sig) → Buf (Elt F) ℓ) (d : Dev nD) (i : grid0.Coords)

/-- The sequencer's number. -/
abbrev coreNo : Fin 2 := ⟨(i 0).val, (i 0).isLt⟩

/-- A SparseCore's share of what both of them read. -/
abbrev coreQ (c : Fin 2) : PosShare TreeShare := leaf 1 fullShare c

/-- What a sequencer is handed, with its half of the output at `f`: shares of the table and of the index list, the half. -/
def half (f : Buf (Elt F) (hidLoc d)) : sProp 𝕄 :=
  iprop((condLoc d ↦{coreQ (coreNo i)} m (condLoc d)) ∗ (idsLoc d ↦{coreQ (coreNo i)} m (idsLoc d))
    ∗ (hidLoc d ↦[rows (base i) (base i + 2048)]{fullShare} f))

instance half_storable (f : Buf (Elt F) (hidLoc d)) : BI.Storable (upEmb : UEmb _ 𝕄) (half m d i f) := by
  unfold half; infer_instance

/-! ## The semaphores -/

theorem slotSem_inj : Function.Injective slotSem := fun a b h => Fin.ext (by simpa [slotSem] using congrArg Fin.val h)

/-- The ring's semaphores as cells of the sequencer. -/
def ringCell : Fin 16 ↪ GSem nD τ sig :=
  ⟨fun b => (seqT d i, SemLoc.dma (slotSem b)), fun a b h => slotSem_inj (by
    have := congrArg Prod.snd h
    simpa using this)⟩

abbrev ringCells : Finset (GSem nD τ sig) := Finset.univ.map (ringCell d i)

abbrev fetchCell : GSem nD τ sig := (seqT d i, SemLoc.dma cc0_scoped0.sem)

theorem ringCells_sub : ringCells d i ⊆ ownCells (seqT d i) := by
  intro g hg
  obtain ⟨b, -, rfl⟩ := Finset.mem_map.1 hg
  refine mem_ownCells.2 ⟨rfl, ?_⟩
  show (SemLoc.dma (slotSem b) : SemLoc sig).isScoped .scScalar = true
  clear hg; revert b; decide

theorem fetchCell_mem : fetchCell d i ∈ ownCells (seqT d i) \ ringCells d i := by
  refine Finset.mem_sdiff.2 ⟨mem_ownCells.2 ⟨rfl, ?_⟩, fun h => ?_⟩
  · show (SemLoc.dma cc0_scoped0.sem : SemLoc sig).isScoped .scScalar = true
    decide
  · obtain ⟨b, -, hb⟩ := Finset.mem_map.1 h
    have h2 : (SemLoc.dma (slotSem b) : SemLoc sig) = SemLoc.dma cc0_scoped0.sem := congrArg Prod.snd hb
    clear hb; revert h2; revert b; decide

/-- The sequencer's semaphores: the ring's, the fetch's, and others. -/
theorem ownSems0_ring :
    (ownSems0 (seqT d i) : sProp 𝕄)
      = iprop((bigSep Finset.univ fun b : Fin 16 => semVal (seqT d i, SemLoc.dma (slotSem b)) 0)
          ∗ semVal (seqT d i, SemLoc.dma cc0_scoped0.sem) 0
          ∗ bigSep ((ownCells (seqT d i) \ ringCells d i).erase (fetchCell d i)) fun g => semVal g 0) := by
  unfold SparseCore.Cfg.ownSems0
  rw [SparseCore.bigSep_sdiff_split' (ringCells_sub d i), SparseCore.bigSep_erase' (fetchCell_mem d i), BI.bigSep_map]
  rfl

/-- The sequencer's buffers: the index window, and others. -/
theorem ownBufs_win :
    (ownBufs (seqT d i) : sProp 𝕄)
      = iprop((∃ f, (seqT d i).loc cc0_scratch0 ↦{fullShare} f)
          ∗ bigSep ((ownRefs (τ := τ) (.scScalar ((i 0).castLE hcore0))).erase ((Proc.scScalar ((i 0).castLE hcore0)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scScalar ((i 0).castLE hcore0))
    (b := (Proc.scScalar ((i 0).castLE hcore0)).devRef cc0_scratch0) rfl)

/-! ## The first and the last state -/

variable (O : CellTallies nD τ sig (HIx 2)) (W : Waits sig (HIx 2)) (q qi : PosShare TreeShare)

/-- All the ring at rest: the semaphores at zero, and the table's share whole. -/
theorem ring_idle (w : ℕ) :
    bigSep Finset.univ (slotSt m d i q w w)
      = iprop((bigSep Finset.univ fun b : Fin 16 => semVal (seqT d i, SemLoc.dma (slotSem b)) 0) ∗ (condLoc d ↦{q} m (condLoc d))) := by
  have h : slotSt m d i q w w = fun b => idle m d i q b := funext fun b => if_neg (by unfold slotRow; omega)
  rw [h]
  unfold idle
  rw [bigSep_sep']
  congr 1
  exact (pointsTo_leaves (ℓ := condLoc d) Finset.univ (m (condLoc d)) 4 q).symm

theorem hid_none (a : ℕ) (f : Buf (Elt F) (hidLoc d)) : (hidLoc d ↦[rows a a]{fullShare} f : sProp 𝕄) = iprop(emp) := by
  rw [rows_self (le_refl a)]
  exact pointsTo_empty

/-- The first state, from what the run starts with. -/
theorem St_first (fs : S256.Idx → BitVec 32) :
    iprop((Transfers.MayWaits (seqT d i) (none : HIx 2) O)
        ∗ ((seqT d i).loc cc0_scratch0 ↦{fullShare} (fs : Buf (Elt F) ((seqT d i).loc cc0_scratch0)))
        ∗ (idsLoc d ↦{qi} m (idsLoc d)) ∗ semVal (seqT d i, SemLoc.dma cc0_scoped0.sem) 0
        ∗ owes (seqT d i) O W ∗ (hidLoc d ↦[rows (base i) (base i + 2048)]{fullShare} m (hidLoc d))
        ∗ (bigSep Finset.univ fun b : Fin 16 => semVal (seqT d i, SemLoc.dma (slotSem b)) 0) ∗ (condLoc d ↦{q} m (condLoc d)))
      ⊢ St m d i O W q qi fs 0 0 := by
  unfold St fixed debts
  rw [ring_idle, show base i + 0 = base i from rfl, hid_none]
  iintro ⟨Hmw, Hwin, Hids, Hs, HO, Hh, Hr, Hc⟩
  isplitl [Hmw Hwin Hids Hs]
  · isplitl [Hmw]; · iexact Hmw
    isplitl [Hwin]; · iexact Hwin
    isplitl [Hids]; · iexact Hids
    iexact Hs
  isplitl [HO]
  · iexists W; isplitr
    · ipureintro; exact fun p hp => .inl hp
    · iexact HO
  isplitr; · iempintro
  isplitl [Hh]; · iexact Hh
  isplitl [Hr]; · iexact Hr
  iexact Hc

/-- What the last state gives back. -/
theorem St_last (fs : S256.Idx → BitVec 32) :
    St m d i O W q qi fs 2048 2048
      ⊢ iprop(((seqT d i).loc cc0_scratch0 ↦{fullShare} (fs : Buf (Elt F) ((seqT d i).loc cc0_scratch0)))
        ∗ (idsLoc d ↦{qi} m (idsLoc d)) ∗ semVal (seqT d i, SemLoc.dma cc0_scoped0.sem) 0
        ∗ (∃ W', ⌜∀ p ∈ W', p ∈ W ∨ p.2 = none⌝ ∗ owes (seqT d i) O W')
        ∗ (hidLoc d ↦[rows (base i) (base i + 2048)]{fullShare} hidVal m d)
        ∗ (bigSep Finset.univ fun b : Fin 16 => semVal (seqT d i, SemLoc.dma (slotSem b)) 0) ∗ (condLoc d ↦{q} m (condLoc d))) := by
  unfold St fixed debts
  rw [ring_idle]
  iintro ⟨⟨-, Hwin, Hids, Hs⟩, HO, Hh, -, Hr, Hc⟩
  isplitl [Hwin]; · iexact Hwin
  isplitl [Hids]; · iexact Hids
  isplitl [Hs]; · iexact Hs
  isplitl [HO]; · iexact HO
  isplitl [Hh]; · iexact Hh
  isplitl [Hr]; · iexact Hr
  iexact Hc

variable [FloatOps F]

/-- The row engine on a sequencer: from its half of the output at the launch contents to the half gathered, with all its
    buffers and semaphores given back. -/
theorem rows_body (hm : IdsOk m) (hO : ∀ g, O g none = 0) :
    iprop(levAts (K (F := F)).L (K (F := F)).lev ∗ emp ∗ half m d i (m (hidLoc d))
        ∗ scopedBufs (seqT d i) ∗ scopedSems0 (seqT d i) ∗ owes (seqT d i) O W)
      ⊢ wp frame (wpE (defs₀ (F := F)) 𝒱₀ (seqT d i) none) Set.univ
          (cc0__rows_body i tabW (Memref.isWhole_whole _) idsW (Memref.isWhole_whole _) outW (Memref.isWhole_whole _) winW (Memref.isWhole_whole _) cc0_scratch1 cc0_scoped0)
          fun _ => iprop(half m d i (hidVal m d) ∗ scopedBufs (seqT d i) ∗ scopedSems0 (seqT d i)
            ∗ ∃ W', ⌜∀ p ∈ W', p ∈ W ∨ p.2 = none⌝ ∗ owes (seqT d i) O W') := by
  rw [(K (F := F)).scopedBufs_S launchFacts d, SparseCore.Cfg.scopedSems0_S (Val := Elt F) d, ownSems0_ring, ownBufs_win]
  unfold half
  iintro ⟨#Hlv, -, ⟨Hc, Hids, Hh⟩, ⟨⟨⟨%fs, Hwin⟩, Hbufs⟩, Htb⟩, ⟨⟨Hr, Hs, Hcells⟩, Hts⟩, HO⟩
  ihave Hmw := ((K (F := F)).mayWaits_none (thr := seqT d i) hO) $$ Hlv
  ihave Hst := (St_first m d i O W (coreQ (coreNo i)) (coreQ (coreNo i)) fs) $$ [Hmw Hwin Hids Hs HO Hh Hr Hc]
  · isplitl [Hmw]; · iexact Hmw
    isplitl [Hwin]; · iexact Hwin
    isplitl [Hids]; · iexact Hids
    isplitl [Hs]; · iexact Hs
    isplitl [HO]; · iexact HO
    isplitl [Hh]; · iexact Hh
    isplitl [Hr]; · iexact Hr
    iexact Hc
  ihave Hrun := (rows_run m d i O W (coreQ (coreNo i)) (coreQ (coreNo i)) hm fs) $$ Hst
  iapply (wp_wand_r frame (wpE (defs₀ (F := F)) 𝒱₀ (seqT d i) none) Set.univ) $$ [Hrun Hbufs Htb Hcells Hts]
  isplitl [Hrun]; · iexact Hrun
  iintro %_ ⟨%gs, H⟩
  ihave H' := (St_last m d i O W (coreQ (coreNo i)) (coreQ (coreNo i)) gs) $$ H
  icases H' with ⟨Hwin, Hids, Hs, HO, Hh, Hr, Hc⟩
  isplitl [Hc Hids Hh]
  · isplitl [Hc]; · iexact Hc
    isplitl [Hids]; · iexact Hids
    iexact Hh
  isplitl [Hwin Hbufs Htb]
  · isplitl [Hwin Hbufs]
    · isplitl [Hwin]; · iexists _; iexact Hwin
      iexact Hbufs
    iexact Htb
  isplitl [Hr Hs Hcells Hts]
  · isplitl [Hr Hs Hcells]
    · isplitl [Hr]; · iexact Hr
      isplitl [Hs]; · iexact Hs
      iexact Hcells
    iexact Hts
  iexact HO

end Cert.Proof.Emo

end
-- ==== Proof.Masks.lean ====
/-
  The mask gather on a tile: the tile fetches its 128 index words, then four times gathers 32 rows of the padded mask table
  into its row buffer and copies them out to its block of the output. `MSt fo fr r` says that `r` rows are copied out, what
  the index window (`fo`) and the row buffer (`fr`) hold, and that every semaphore is at rest; `MFl b r` that the copy of
  rows `r` to `r + 31` is outstanding on semaphore `b`.
-/
module

public import proofs.«01_k».proof.Proof.Setup
public import Idealize.ShloMosaic.Lib.SparseCore.FromWhole

@[expose] public section

set_option maxRecDepth 16384

noncomputable section

namespace Cert.Proof.Emo

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf pointsTo_leaves)

variable {F : FTy → Type}

local notation "𝕄" => MT nD τ sig (HIx 2) (Elt F) ℕ UU ℕ

/-- Two positions of a matrix with the same coordinates are one. -/
theorem idx2_ext {n : Fin 2 → ℕ} {a b : (⟨2, n⟩ : Shape).Idx} (h0 : (a 0).val = (b 0).val) (h1 : (a 1).val = (b 1).val) : a = b :=
  funext fun c => match c with
    | ⟨0, _⟩ => Fin.ext h0
    | ⟨1, _⟩ => Fin.ext h1

/-! ## Rows of the output -/

/-- The elements of the mask output whose row lies in `[a, b)`. -/
def mrows (a b : ℕ) : Finset S4096x128.Idx := Finset.univ.filter fun i => a ≤ (i 0).val ∧ (i 0).val < b

theorem mem_mrows {a b : ℕ} {i : S4096x128.Idx} : i ∈ mrows a b ↔ a ≤ (i 0).val ∧ (i 0).val < b := by
  simp [mrows]

theorem mrows_union {a b c : ℕ} (hab : a ≤ b) (hbc : b ≤ c) : mrows a b ∪ mrows b c = mrows a c := by
  ext i; simp only [Finset.mem_union, mem_mrows]; omega

theorem mrows_disjoint {a b c : ℕ} : Disjoint (mrows a b) (mrows b c) :=
  Finset.disjoint_left.2 fun i h h' => by rw [mem_mrows] at h h'; omega

theorem mrows_self (a : ℕ) : mrows a a = ∅ := by
  ext i; simp only [mem_mrows, Finset.notMem_empty, iff_false]; omega

/-- The window `[32, 128]` at row `r` is the rows `r` to `r + 31`. -/
theorem set_blockSlice {off : Fin 2 → ℕ} (h : ∀ a, off a + S32x128.size a ≤ S4096x128.size a) {r : ℕ} (ho : off = ![r, 0]) :
    (Rect.unit (s := S4096x128) off S32x128.size h).set = mrows r (r + 32) := by
  subst ho
  ext i
  rw [Rect.mem_set_unit, mem_mrows]
  constructor
  · intro hi; exact hi 0
  · intro hi a
    match a with
    | ⟨0, _⟩ => exact hi
    | ⟨1, _⟩ => exact ⟨Nat.zero_le _, by rw [show (![r, 0] : Fin 2 → ℕ) ⟨1, _⟩ = 0 from rfl, Nat.zero_add]; exact (i 1).isLt⟩

/-! ## The tile and its arrays -/

variable (m : (ℓ : Loc nD τ sig) → Buf (Elt F) ℓ) (d : Dev nD) (pv : Buf (Elt F) (padLoc d)) (i : grid1.Coords)

/-- The tile the coordinates name. -/
abbrev tileT : Thread nD τ := V d ((i 0).castLE hcore1) ((i 1).castLE hsub1)

abbrev padV : Memref sig .scVector .hbm S1000x128 .i32 := Memref.whole main_v0_scv
abbrev idsV : Memref sig .scVector .hbm S4096 .i32 := Memref.whole main_arg2_scv
abbrev mskV : Memref sig .scVector .hbm S4096x128 .i32 := Memref.whole main_v2_scv
abbrev winV : Memref sig .scVector .vmem S128 .i32 := Memref.whole cc1_scratch0
abbrev rowV : Memref sig .scVector .vmem S32x128 .i32 := Memref.whole cc1_scratch1

/-- A block window of the output, a window of the index list, and of the fetched words; the mask table whole. -/
abbrev mskBlk (off : Fin 2 → ℕ) (h : ∀ a, off a + S32x128.size a ≤ S4096x128.size a) : Memref sig .scVector .hbm S32x128 .i32 :=
  mskV.slice (Rect.unit (s := S4096x128) off S32x128.size h) (fun _ => rfl)
abbrev idsWin (off : Fin 1 → ℕ) (h : ∀ a, off a + S128.size a ≤ S4096.size a) : Memref sig .scVector .hbm S128 .i32 :=
  idsV.slice (Rect.unit (s := S4096) off S128.size h) (fun _ => rfl)
abbrev winPart (off : Fin 1 → ℕ) (h : ∀ a, off a + S32.size a ≤ S128.size a) : Memref sig .scVector .vmem S32 .i32 :=
  winV.slice (Rect.unit (s := S128) off S32.size h) (fun _ => rfl)
abbrev padAll : Memref sig .scVector .hbm S1000x128 .i32 :=
  padV.slice (Rect.unit (s := S1000x128) ![0, 0] S1000x128.size inb_S1000x128_S1000x128_0_0) (fun _ => rfl)

/-- The first row of the tile's block. -/
def mbase : ℕ := 256 * (i 1).val + 128 * (i 0).val

theorem mbase_le : mbase i ≤ 3968 := by
  have h0 : (i 0).val < 2 := (i 0).isLt
  have h1 : (i 1).val < 16 := (i 1).isLt
  unfold mbase; omega

/-- The index word of the block's row `n`. -/
def mword (n : ℕ) : BitVec 32 := m (idsLoc d) (at1 ⟨(mbase i + n) % 4096, Nat.mod_lt _ (by decide)⟩)

/-- The tile's 128 index words. -/
def words : S128.Idx → BitVec 32 := fun j => mword m d i (j 0).val

/-- Rows `r` to `r + 31` of the block, gathered. -/
def gath (r : ℕ) : S32x128.Idx → Elt F .i32 := fun y => pv fun
  | ⟨0, _⟩ => rowNo (mword m d i (r + (y 0).val))
  | ⟨1, _⟩ => y 1

/-- What the second call leaves in its output, of the padded mask table `pv`. -/
def mrowVal : Buf (Elt F) (mrowLoc d) := takeRows pv (m (idsLoc d))

/-- The tile's six semaphores. -/
def tSem (b : Fin 6) : DmaSem sig := ⟨17 + b.val, by show 17 + b.val < 23; omega⟩

/-- The credit of one block's copy out: the same at every block. -/
def blkN : ℕ := (mskBlk ![0, 0] (by decide)).view.dmaCredit

theorem blkN_credit (off : Fin 2 → ℕ) (h) : (mskBlk off h).view.dmaCredit = blkN := rfl
theorem blkN_amount (b : Fin 6) (off : Fin 2 → ℕ) (h) : (mskBlk off h).view.amount (.dma (tSem b)) = blkN := rfl
theorem blkN_pos : 0 < blkN :=
  (blkN_amount 0 ![0, 0] (by decide)) ▸ View.amount_pos _ _ (show 0 < S32x128.numel by decide)

/-! ## The state -/

variable (O : CellTallies nD τ sig (HIx 2)) (W : Waits sig (HIx 2)) (q qi : PosShare TreeShare)

/-- What only the index fetch changes. -/
def mfix (fo : S128.Idx → BitVec 32) : sProp 𝕄 :=
  iprop(Transfers.MayWaits (tileT d i) (none : HIx 2) O
    ∗ ((tileT d i).loc cc1_scratch0 ↦{fullShare} (fo : Buf (Elt F) ((tileT d i).loc cc1_scratch0)))
    ∗ (padLoc d ↦{q} pv) ∗ (idsLoc d ↦{qi} m (idsLoc d)))

/-- What the tile owes: `O`, with the waits of its own beyond `W`. -/
def mdebts : sProp 𝕄 := iprop(∃ W', ⌜∀ p ∈ W', p ∈ W ∨ p.2 = none⌝ ∗ owes (tileT d i) O W')

/-- The row buffer holds `fr`. -/
def rowPts (fr : S32x128.Idx → Elt F .i32) : sProp 𝕄 :=
  iprop((tileT d i).loc cc1_scratch1 ↦{fullShare} (fr : Buf (Elt F) ((tileT d i).loc cc1_scratch1)))

/-- The tile's semaphore `b` at rest. -/
def rest (b : Fin 6) : sProp 𝕄 := semVal (tileT d i, SemLoc.dma (tSem b)) 0

/-- Nothing outstanding, `r` rows copied out. -/
def MSt (fo : S128.Idx → BitVec 32) (fr : S32x128.Idx → Elt F .i32) (r : ℕ) : sProp 𝕄 :=
  iprop(mfix m d pv i O q qi fo ∗ mdebts d i O W ∗ rowPts d i fr
    ∗ (mrowLoc d ↦[mrows (mbase i) (mbase i + r)]{fullShare} mrowVal m d pv)
    ∗ (mrowLoc d ↦[mrows (mbase i + r) (mbase i + 128)]{fullShare} m (mrowLoc d))
    ∗ bigSep Finset.univ (rest d i))

/-- Rows `r` to `r + 31` on their way out on semaphore `b`. -/
def MFl (fo : S128.Idx → BitVec 32) (b : Fin 6) (r : ℕ) : sProp 𝕄 :=
  iprop(mfix m d pv i O q qi fo ∗ mdebts d i O W
    ∗ Transfers.Flight countersEmb (tileT d i) (SemLoc.dma (tSem b)) (none : HIx 2) blkN
        iprop((mrowLoc d ↦[mrows (mbase i + r) (mbase i + r + 32)]{fullShare} mrowVal m d pv) ∗ rowPts d i (gath m d pv i r))
    ∗ (mrowLoc d ↦[mrows (mbase i) (mbase i + r)]{fullShare} mrowVal m d pv)
    ∗ (mrowLoc d ↦[mrows (mbase i + r + 32) (mbase i + 128)]{fullShare} m (mrowLoc d))
    ∗ bigSep (Finset.univ.erase b) (rest d i))

theorem mrow_rows {a b c : ℕ} (hab : a ≤ b) (hbc : b ≤ c) (f : Buf (Elt F) (mrowLoc d)) :
    (mrowLoc d ↦[mrows a c]{fullShare} f : sProp 𝕄) = iprop((mrowLoc d ↦[mrows a b]{fullShare} f) ∗ (mrowLoc d ↦[mrows b c]{fullShare} f)) := by
  have h := pointsTo_union (Ix := HIx 2) (Val := Elt F) (Name := ℕ) (U := UU) (Lvl := ℕ) (ℓ := mrowLoc d) (q := fullShare) (f := f) (I := mrows a b) (J := mrows b c) mrows_disjoint
  rw [← mrows_union hab hbc]
  exact Entails.antisymm h.1 h.2

/-- One semaphore taken out of the six. -/
theorem rest_out (b : Fin 6) :
    bigSep Finset.univ (rest (F := F) d i) = iprop(rest d i b ∗ bigSep (Finset.univ.erase b) (rest d i)) :=
  SparseCore.bigSep_erase' (Finset.mem_univ b)

/-! ## Values -/

theorem mword_lt (hm : IdsOk m) (n : ℕ) : (mword m d i n).toNat < 1000 := hm d _

/-- What the index fetch leaves. -/
theorem words_value {off : Fin 1 → ℕ} (h : ∀ a, off a + S128.size a ≤ S4096.size a) (ho : off = ![mbase i]) (fo : S128.Idx → BitVec 32) :
    winV.view.write (Elt F) (fo : Buf (Elt F) ((tileT d i).loc cc1_scratch0)) ((idsWin off h).view.read (Elt F) (m (idsLoc d))) Finset.univ
      = (words m d i : Buf (Elt F) ((tileT d i).loc cc1_scratch0)) := by
  subst ho
  have hb := mbase_le i
  refine (View.write_whole_univ ..).trans (funext fun j => ?_)
  have hj : (j 0).val < 128 := (j 0).isLt
  show m (idsLoc d) _ = mword m d i (j 0).val
  unfold mword
  refine congrArg (m (idsLoc d)) (Shape.idx1_ext ?_)
  show mbase i + 1 * (j 0).val = (mbase i + (j 0).val) % 4096
  rw [Nat.mod_eq_of_lt (by omega)]; omega

/-- A word of the window's part at `r` is the block's word `r + x`. -/
theorem part_word {r : ℕ} {off : Fin 1 → ℕ} (h : ∀ a, off a + S32.size a ≤ S128.size a) (ho : off = ![r]) (x : S32.Idx) :
    (winPart off h).view.read (Elt F) (words m d i : Buf (Elt F) ((tileT d i).loc cc1_scratch0)) x = mword m d i (r + (x 0).val) := by
  subst ho
  show mword m d i (r + 1 * (x 0).val) = _
  rw [Nat.one_mul]

/-- Every word of the window names a row of the mask table. -/
theorem part_in (hm : IdsOk m) {r : ℕ} {off : Fin 1 → ℕ} (h : ∀ a, off a + S32.size a ≤ S128.size a) (ho : off = ![r]) (x : S32.Idx) :
    ((winPart off h).view.read (Elt F) (words m d i : Buf (Elt F) ((tileT d i).loc cc1_scratch0)) x).toNat < S1000x128.size gathers_S1000x128_S32x128.axis := by
  rw [part_word m d i h ho]
  exact mword_lt m d i hm _

theorem rowMajor_S32 : ∀ k : Fin S32.numel, ((S32.rowMajor.symm k) 0).val = k.val := by decide +kernel

/-- What a gather leaves in the row buffer. -/
theorem gath_value (hm : IdsOk m) {r : ℕ} {off : Fin 1 → ℕ} (h : ∀ a, off a + S32.size a ≤ S128.size a) (ho : off = ![r]) (fr : S32x128.Idx → Elt F .i32)
    (hin : ∀ x, ((winPart off h).view.read (Elt F) (words m d i : Buf (Elt F) ((tileT d i).loc cc1_scratch0)) x).toNat < S1000x128.size gathers_S1000x128_S32x128.axis)
    (hn : S32.numel = S32x128.size gathers_S1000x128_S32x128.axis') :
    rowV.view.write (Elt F) (fr : Buf (Elt F) ((tileT d i).loc cc1_scratch1))
        (SparseCore.gatherPayload gathers_S1000x128_S32x128 (padAll.view.read (Elt F) pv)
          (SparseCore.rows ((winPart off h).view.read (Elt F) (words m d i : Buf (Elt F) ((tileT d i).loc cc1_scratch0))) hn hin)) Finset.univ
      = (gath m d pv i r : Buf (Elt F) ((tileT d i).loc cc1_scratch1)) := by
  refine (View.write_whole_univ ..).trans (funext fun y => ?_)
  unfold SparseCore.gatherPayload gath
  rw [View.read_apply]
  refine congrArg pv (idx2_ext ?_ ?_)
  · show 0 + 1 * (gathers_S1000x128_S32x128.idx _ y gathers_S1000x128_S32x128.axis).val = (rowNo (mword m d i (r + (y 0).val))).val
    rw [Shape.Gathers.idx_axis, rowNo_val (mword_lt m d i hm _)]
    unfold SparseCore.rows
    simp only [part_word m d i h ho, rowMajor_S32]
    rw [Nat.zero_add, Nat.one_mul]
    rfl
  · show 0 + 1 * (gathers_S1000x128_S32x128.idx _ y 1).val = (y 1).val
    rw [Shape.Gathers.idx_of_ne _ _ _ _ (by decide), Nat.zero_add, Nat.one_mul]
    rfl

/-- What a copy out leaves in its block of the output. -/
theorem out_value {r : ℕ} {off : Fin 2 → ℕ} (h : ∀ a, off a + S32x128.size a ≤ S4096x128.size a) (ho : off = ![mbase i + r, 0]) (hr : r ≤ 96)
    (j : S4096x128.Idx) (hj : j ∈ mrows (mbase i + r) (mbase i + r + 32)) :
    (mskBlk off h).view.write (Elt F) (m (mrowLoc d)) (rowV.view.read (Elt F) (gath m d pv i r : Buf (Elt F) ((tileT d i).loc cc1_scratch1))) Finset.univ j
      = mrowVal m d pv j := by
  subst ho
  rw [mem_mrows] at hj
  have hb := mbase_le i
  obtain ⟨x, hx⟩ : ∃ x : S32x128.Idx, (mskBlk ![mbase i + r, 0] h).view.emb x = j :=
    ⟨fun | ⟨0, _⟩ => ⟨(j 0).val - (mbase i + r), by show _ < 32; omega⟩ | ⟨1, _⟩ => j 1,
      idx2_ext
        (by show mbase i + r + 1 * ((j 0).val - (mbase i + r)) = (j 0).val; omega)
        (by show 0 + 1 * (j 1).val = (j 1).val; omega)⟩
  subst hx
  rw [View.write_emb_of_mem _ _ (Finset.mem_univ x)]
  have hx0 : (x 0).val < 32 := (x 0).isLt
  have hw : (m (idsLoc d) (at1 (((mskBlk ![mbase i + r, 0] h).view.emb x) 0)) : BitVec 32) = mword m d i (r + (x 0).val) := by
    unfold mword
    refine congrArg (m (idsLoc d)) (Shape.idx1_ext ?_)
    show mbase i + r + 1 * (x 0).val = (mbase i + (r + (x 0).val)) % 4096
    rw [Nat.mod_eq_of_lt (by omega)]; omega
  show gath m d pv i r x = takeRows pv (m (idsLoc d)) _
  unfold gath takeRows
  refine congrArg pv (idx2_ext ?_ ?_)
  · show (rowNo (mword m d i (r + (x 0).val))).val = _
    exact congrArg (fun w : BitVec 32 => (rowNo w).val) hw.symm
  · show (x 1).val = 0 + 1 * (x 1).val
    omega

/-! ## The steps -/

variable [FloatOps F]

/-- A program of the tile. -/
abbrev TProg (α : Type) : Type 1 := Prog (TpuEff nD τ sig (Elt F) Λ₀ (.scVector ((i 0).castLE hcore1) ((i 1).castLE hsub1))) α

/-- The weakest precondition of a program of the tile. -/
abbrev wpT {α : Type} (p : TProg (F := F) i α) (Q : α → sProp 𝕄) : sProp 𝕄 :=
  wp frame (wpE (defs₀ (F := F)) 𝒱₀ (tileT d i) none) Set.univ p Q

section Steps

variable {m d pv i O W q qi}

variable {α : Type}

/-- One more wait of the tile's own is recorded. -/
theorem debts_wait {W' : Waits sig (HIx 2)} (hW' : ∀ p ∈ W', p ∈ W ∨ p.2 = none) (sm : SemLoc sig) :
    owes (tileT d i) O (insert (sm, (none : HIx 2)) W') ⊢ (mdebts d i O W : sProp 𝕄) := by
  unfold mdebts
  iintro HO
  iexists (insert (sm, (none : HIx 2)) W'); isplitr
  · ipureintro; intro p hp
    rcases Finset.mem_insert.mp hp with hp | hp
    · exact .inr (hp ▸ rfl)
    · exact hW' p hp
  · iexact HO

/-- The fetch of the tile's index words, and the wait for it. -/
theorem mstep_fetch {Φ : α → sProp 𝕄} {fo : S128.Idx → BitVec 32} {fr : S32x128.Idx → Elt F .i32} {r : ℕ} {b : Fin 6} {sm : DmaSem sig} {off off₂ : Fin 1 → ℕ}
    {h : ∀ a, off a + S128.size a ≤ S4096.size a} {h₂ : ∀ a, off₂ a + S128.size a ≤ S4096.size a}
    {hsrc : (idsWin off h).view.WordExact} {hdst : winV.view.WordExact}
    {hsem : (DmaTarget.here winV : DmaTarget nD τ sig (.scVector ((i 0).castLE hcore1) ((i 1).castLE hsub1)) Space.vmem S128 .i32).Typed Space.hbm (SemLoc.dma sm)}
    {hsrc₂ : (idsWin off₂ h₂).view.WordExact} {hdst₂ : winV.view.WordExact}
    {k : PUnit → TProg (F := F) i α}
    (hs : sm = tSem b) (ho : off = ![mbase i])
    (hk : MSt m d pv i O W q qi (words m d i) fr r ⊢ wpT d i (k ⟨⟩) Φ) :
    MSt m d pv i O W q qi fo fr r
      ⊢ wpT d i (Prog.lift (TpuEff.enqueueDma (idsWin off h) (.here winV) (.dma sm) hsrc hdst hsem)
          >>= fun _ => Prog.lift (TpuEff.waitDma2 sm (idsWin off₂ h₂) winV hsrc₂ hdst₂) >>= k) Φ := by
  subst hs
  have hdma := Transfers.wp_dmaFromWhole (defs := defs₀ (F := F)) countersEmb 𝒱₀ (tileT d i) none (Q := Φ)
    (k := fun _ => Prog.lift (TpuEff.waitDma2 (tSem b) (idsWin off₂ h₂) winV hsrc₂ hdst₂) >>= k)
    (src := idsWin off h) (via := .same) (dst := winV) (sm := SemLoc.dma (tSem b))
    (hsrc := hsrc) (hdst := hdst) (hsem := hsem) (q := qi) (fs := m (idsLoc d)) (fd := (fo : Buf (Elt F) ((tileT d i).loc cc1_scratch0))) (Sd := Finset.univ)
    (none : HIx 2) (winV.view.dmaCredit) rfl (View.amount_pos winV.view (SemLoc.dma (tSem b)) (show 0 < S128.numel by decide)) (Finset.subset_univ _)
  have hwait := fun (D : sProp 𝕄) (W' : Waits sig (HIx 2)) => Transfers.wp_waitLocalO (defs := defs₀ (F := F)) countersEmb 𝒱₀ (tileT d i) none (Q := Φ) (none : HIx 2) (k := k)
    (srcw := idsWin off₂ h₂) (dstw := winV) (hsrc := hsrc₂) (hdst := hdst₂) (sem := tSem b) (N := winV.view.dmaCredit) rfl
    (D := D) (O := O) (W := W')
  change _ ⊢ wp frame (wpE (defs₀ (F := F)) 𝒱₀ (tileT d i) none) Set.univ
    (.op (TpuEff.enqueueDmaAs (idsWin off h) (.here winV) .same (.dma (tSem b)) hsrc hdst hsem)
      fun _ => Prog.lift (TpuEff.waitDma2 (tSem b) (idsWin off₂ h₂) winV hsrc₂ hdst₂) >>= k) Φ
  unfold MSt mfix at hk ⊢
  rw [rest_out d i b] at hk ⊢
  unfold rest at hk ⊢
  iintro ⟨⟨#Hmw, Hwin, Hpad, Hids⟩, HO, Hrow, Hdone, Htodo, Hs, Hrest⟩
  unfold mdebts
  icases HO with ⟨%W', %hW', HO⟩
  iapply hdma $$ [Hwin Hids Hs]
  · isplitl [Hids]; · iexact Hids
    isplitl [Hwin]; · iexact Hwin
    iexact Hs
  iintro Hfl
  ihave Hm := (Transfers.MayWaits.elim (SemLoc.dma (tSem b))) $$ Hmw
  iapply (hwait _ W') $$ [Hfl HO Hm]
  · isplitl [Hfl]; · iexact Hfl
    isplitl [HO]; · iexact HO
    iexact Hm
  iintro ⟨⟨Hwin, Hids⟩, Hs, HO⟩
  iapply hk
  isplitl [Hwin Hids Hpad]
  · isplitr; · iexact Hmw
    isplitl [Hwin]; · iapply (Entails.of_eq (congrArg (fun f => ((tileT d i).loc cc1_scratch0 ↦{fullShare} f : sProp 𝕄)) (words_value m d i h ho fo))) $$ Hwin
    isplitl [Hpad]; · iexact Hpad
    iexact Hids
  isplitl [HO]; · iapply (debts_wait hW' _); iexact HO
  isplitl [Hrow]; · iexact Hrow
  isplitl [Hdone]; · iexact Hdone
  isplitl [Htodo]; · iexact Htodo
  isplitl [Hs]; · iexact Hs
  iexact Hrest

/-- One gather of 32 rows, and the wait for it. -/
theorem mstep_gather {Φ : α → sProp 𝕄} {fr : S32x128.Idx → Elt F .i32} {r : ℕ} {b : Fin 6} {sm : DmaSem sig} {off : Fin 1 → ℕ}
    {h : ∀ a, off a + S32.size a ≤ S128.size a} {hn : S32.numel = S32x128.size gathers_S1000x128_S32x128.axis'}
    {hp : (Proc.scVector ((i 0).castLE hcore1) ((i 1).castLE hsub1) : Proc τ).kind = .scVector}
    {hsrc : padAll.view.WordExact} {he : (EltTy.i32).bits = 32} {hsp : Space.hbm = Space.hbm ∨ Space.hbm = Space.shared} {hr : S1000x128.StreamRows 0}
    {hsrc₂ : padAll.view.WordExact} {hdst₂ : rowV.view.WordExact}
    {k : PUnit → TProg (F := F) i α}
    (hm : IdsOk m) (hs : sm = tSem b) (ho : off = ![r])
    (hk : MSt m d pv i O W q qi (words m d i) (gath m d pv i r) r ⊢ wpT d i (k ⟨⟩) Φ) :
    MSt m d pv i O W q qi (words m d i) fr r
      ⊢ wpT d i (SparseCore.enqueueIndirectGather hp padAll rowV gathers_S1000x128_S32x128 (winPart off h) hn sm hsrc he hsp hr
          >>= fun _ => SparseCore.waitIndirectGather sm padAll rowV hsrc₂ hdst₂ >>= k) Φ := by
  subst hs
  have hN : ∑ j, (rowV.slice (S32x128.rowRect gathers_S1000x128_S32x128.axis' j) (S32x128.stride_rowRect gathers_S1000x128_S32x128.axis' j)).view.dmaCredit
      = rowV.view.dmaCredit := by decide
  have hg := SparseCore.wp_gatherFromWhole (defs := defs₀ (F := F)) countersEmb 𝒱₀ (tileT d i) none (Q := Φ)
    (src := padAll) (dst := rowV) (hg := gathers_S1000x128_S32x128) (offs := winPart off h) (hn := hn) (sem := tSem b) (hp := hp) (hsrc := hsrc) (he := he) (hsp := hsp) (hr := hr)
    (k := fun _ => SparseCore.waitIndirectGather (tSem b) padAll rowV hsrc₂ hdst₂ >>= k) (q := q) (qo := fullShare) (fs := pv)
    (fd := (fr : Buf (Elt F) ((tileT d i).loc cc1_scratch1))) (fo := (words m d i : Buf (Elt F) ((tileT d i).loc cc1_scratch0)))
    (none : HIx 2) rowV.view.dmaCredit hN (by decide) (part_in m d i hm h ho)
  have hwait := fun (D : sProp 𝕄) (W' : Waits sig (HIx 2)) => Transfers.wp_waitLocalO (defs := defs₀ (F := F)) countersEmb 𝒱₀ (tileT d i) none (Q := Φ) (none : HIx 2) (k := k)
    (srcw := padAll) (dstw := rowV) (hsrc := hsrc₂) (hdst := hdst₂) (sem := tSem b) (N := rowV.view.dmaCredit) rfl
    (D := D) (O := O) (W := W')
  unfold MSt mfix at hk ⊢
  rw [rest_out d i b] at hk ⊢
  unfold rest rowPts at hk ⊢
  iintro ⟨⟨#Hmw, Hwin, Hpad, Hids⟩, HO, Hrow, Hdone, Htodo, Hs, Hrest⟩
  unfold mdebts
  icases HO with ⟨%W', %hW', HO⟩
  iapply hg $$ [Hwin Hpad Hrow Hs]
  · isplitl [Hpad]; · iexact Hpad
    isplitl [Hrow]; · iexact Hrow
    isplitl [Hwin]; · iexact Hwin
    iexact Hs
  iintro Hfl
  ihave Hm := (Transfers.MayWaits.elim (SemLoc.dma (tSem b))) $$ Hmw
  iapply (hwait _ W') $$ [Hfl HO Hm]
  · isplitl [Hfl]; · iexact Hfl
    isplitl [HO]; · iexact HO
    iexact Hm
  iintro ⟨⟨Hrow, Hpad, Hwin⟩, Hs, HO⟩
  iapply hk
  isplitl [Hwin Hids Hpad]
  · isplitr; · iexact Hmw
    isplitl [Hwin]; · iexact Hwin
    isplitl [Hpad]; · iexact Hpad
    iexact Hids
  isplitl [HO]; · iapply (debts_wait hW' _); iexact HO
  isplitl [Hrow]
  · iapply (Entails.of_eq (congrArg (fun f => ((tileT d i).loc cc1_scratch1 ↦{fullShare} f : sProp 𝕄)) (gath_value m d pv i hm h ho fr (part_in m d i hm h ho) hn))) $$ Hrow
  isplitl [Hdone]; · iexact Hdone
  isplitl [Htodo]; · iexact Htodo
  isplitl [Hs]; · iexact Hs
  iexact Hrest

/-- The issue of a copy out. -/
theorem mstep_out {Φ : α → sProp 𝕄} {fo : S128.Idx → BitVec 32} {r : ℕ} (b : Fin 6) {sm : DmaSem sig} {off : Fin 2 → ℕ}
    {h : ∀ a, off a + S32x128.size a ≤ S4096x128.size a}
    {hsrc : rowV.view.WordExact} {hdst : (mskBlk off h).view.WordExact}
    {hsem : (DmaTarget.here (mskBlk off h) : DmaTarget nD τ sig (.scVector ((i 0).castLE hcore1) ((i 1).castLE hsub1)) Space.hbm S32x128 .i32).Typed Space.vmem (SemLoc.dma sm)}
    {k : PUnit → TProg (F := F) i α}
    (hs : sm = tSem b) (ho : off = ![mbase i + r, 0]) (hr : r ≤ 96)
    (hk : MFl m d pv i O W q qi fo b r ⊢ wpT d i (k ⟨⟩) Φ) :
    MSt m d pv i O W q qi fo (gath m d pv i r) r
      ⊢ wpT d i (Prog.lift (TpuEff.enqueueDma rowV (.here (mskBlk off h)) (.dma sm) hsrc hdst hsem) >>= k) Φ := by
  subst hs
  have hset : (mskBlk off h).view.set = mrows (mbase i + r) (mbase i + r + 32) :=
    (View.set_slice_whole _ _).trans (set_blockSlice h ho)
  have hdma := Transfers.wp_dmaFromWhole (defs := defs₀ (F := F)) countersEmb 𝒱₀ (tileT d i) none (Q := Φ)
    (k := k) (src := rowV) (via := .same) (dst := mskBlk off h) (sm := SemLoc.dma (tSem b))
    (hsrc := hsrc) (hdst := hdst) (hsem := hsem) (q := fullShare) (fs := (gath m d pv i r : Buf (Elt F) ((tileT d i).loc cc1_scratch1)))
    (fd := m (mrowLoc d)) (Sd := (mskBlk off h).view.set)
    (none : HIx 2) blkN (blkN_amount _ _ _) blkN_pos (Finset.Subset.refl _)
  change _ ⊢ wp frame (wpE (defs₀ (F := F)) 𝒱₀ (tileT d i) none) Set.univ
    (.op (TpuEff.enqueueDmaAs rowV (.here (mskBlk off h)) .same (.dma (tSem b)) hsrc hdst hsem) k) Φ
  unfold MFl at hk
  unfold MSt
  rw [rest_out d i b, mrow_rows (a := mbase i + r) (b := mbase i + r + 32) (c := mbase i + 128) d (by omega) (by omega)]
  unfold rest at hk ⊢
  unfold rowPts at hk ⊢
  iintro ⟨Hfix, HO, Hrow, Hdone, ⟨Hblk, Htodo⟩, Hs, Hrest⟩
  iapply hdma $$ [Hrow Hblk Hs]
  · isplitl [Hrow]; · iexact Hrow
    isplitl [Hblk]; · rw [hset]; iexact Hblk
    iexact Hs
  iintro Hfl
  iapply hk
  isplitl [Hfix]; · iexact Hfix
  isplitl [HO]; · iexact HO
  isplitl [Hfl]
  · iapply (Transfers.Flight_mono countersEmb (tileT d i) (sep_mono (Entails.of_eq (by rw [hset]; exact pointsTo_congr fun j hj => out_value m d pv i h ho hr j hj)) .rfl)) $$ Hfl
  isplitl [Hdone]; · iexact Hdone
  isplitl [Htodo]; · iexact Htodo
  iexact Hrest

/-- The wait for a copy out. -/
theorem mstep_wait {Φ : α → sProp 𝕄} {fo : S128.Idx → BitVec 32} {r : ℕ} {b : Fin 6} {sm : DmaSem sig} {off : Fin 2 → ℕ}
    {h : ∀ a, off a + S32x128.size a ≤ S4096x128.size a}
    {hsrc : rowV.view.WordExact} {hdst : (mskBlk off h).view.WordExact}
    {k : PUnit → TProg (F := F) i α}
    (hs : sm = tSem b) (hr : r ≤ 96)
    (hk : MSt m d pv i O W q qi fo (gath m d pv i r) (r + 32) ⊢ wpT d i (k ⟨⟩) Φ) :
    MFl m d pv i O W q qi fo b r
      ⊢ wpT d i (Prog.lift (TpuEff.waitDma2 sm rowV (mskBlk off h) hsrc hdst) >>= k) Φ := by
  subst hs
  have hwait := fun (D : sProp 𝕄) (W' : Waits sig (HIx 2)) => Transfers.wp_waitLocalO (defs := defs₀ (F := F)) countersEmb 𝒱₀ (tileT d i) none (Q := Φ) (none : HIx 2) (k := k)
    (srcw := rowV) (dstw := mskBlk off h) (hsrc := hsrc) (hdst := hdst) (sem := tSem b) (N := blkN) (blkN_credit _ _)
    (D := D) (O := O) (W := W')
  change _ ⊢ wp frame (wpE (defs₀ (F := F)) 𝒱₀ (tileT d i) none) Set.univ (.op (TpuEff.waitDma2 (tSem b) rowV (mskBlk off h) hsrc hdst) k) Φ
  unfold MFl mfix
  unfold MSt mfix at hk
  rw [rest_out d i b] at hk
  unfold rest at hk ⊢
  iintro ⟨⟨#Hmw, Hwin, Hpad, Hids⟩, HO, Hfl, Hdone, Htodo, Hrest⟩
  unfold mdebts
  icases HO with ⟨%W', %hW', HO⟩
  ihave Hm := (Transfers.MayWaits.elim (SemLoc.dma (tSem b))) $$ Hmw
  iapply (hwait _ W') $$ [Hfl HO Hm]
  · isplitl [Hfl]; · iexact Hfl
    isplitl [HO]; · iexact HO
    iexact Hm
  iintro ⟨⟨Hblk, Hrow⟩, Hs, HO⟩
  iapply hk
  isplitl [Hwin Hids Hpad]
  · isplitr; · iexact Hmw
    isplitl [Hwin]; · iexact Hwin
    isplitl [Hpad]; · iexact Hpad
    iexact Hids
  isplitl [HO]; · iapply (debts_wait hW' _); iexact HO
  isplitl [Hrow]; · iexact Hrow
  isplitl [Hdone Hblk]
  · iapply (Entails.of_eq (mrow_rows (a := mbase i) (b := mbase i + r) (c := mbase i + (r + 32)) d (by omega) (by omega) (mrowVal m d pv)).symm)
    isplitl [Hdone]; · iexact Hdone
    iexact Hblk
  isplitl [Htodo]; · iexact Htodo
  isplitl [Hs]; · iexact Hs
  iexact Hrest

theorem mstep_ret {Φ : α → sProp 𝕄} {P : sProp 𝕄} {a : α} (h : P ⊢ Φ a) : P ⊢ wpT d i (pure a : TProg (F := F) i α) Φ :=
  h.trans (le_wp_ret frame _ Set.univ a Φ)

theorem mstep_part {β : Type} {Φ : β → sProp 𝕄} {P : sProp 𝕄} {p : TProg (F := F) i α} {k : α → TProg (F := F) i β}
    (h : P ⊢ wpT d i p fun a => wpT d i (k a) Φ) : P ⊢ wpT d i (p >>= k) Φ :=
  h.trans (Entails.of_eq (wp_bind ..).symm)

end Steps

end Cert.Proof.Emo

end
-- ==== Proof.MasksBody.lean ====
/-
  The mask gather's whole run on a tile, and the form the launch asks for: from a tile's shares of the padded mask table and
  of the index list and its block of the output, to the block gathered, with every scratch buffer and semaphore given back.
-/
module

public import proofs.«01_k».proof.Proof.Masks

@[expose] public section

set_option maxRecDepth 16384

noncomputable section

namespace Cert.Proof.Emo

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf pointsTo_leaves)

variable {F : FTy → Type}

local notation "𝕄" => MT nD τ sig (HIx 2) (Elt F) ℕ UU ℕ

variable (m : (ℓ : Loc nD τ sig) → Buf (Elt F) ℓ) (d : Dev nD) (pv : Buf (Elt F) (padLoc d)) (i : grid1.Coords)
variable (O : CellTallies nD τ sig (HIx 2)) (W : Waits sig (HIx 2)) (q qi : PosShare TreeShare)

/-- The whole run: the index fetch, then four gathers of 32 rows, each copied out. -/
theorem masks_run [FloatOps F] (hm : IdsOk m) (fo : S128.Idx → BitVec 32) (fr : S32x128.Idx → Elt F .i32) :
    MSt m d pv i O W q qi fo fr 0
      ⊢ wpT d i (cc1__masks_body i padV (Memref.isWhole_whole _) idsV (Memref.isWhole_whole _) mskV (Memref.isWhole_whole _)
            winV (Memref.isWhole_whole _) rowV (Memref.isWhole_whole _) cc1_scratch2 cc1_scoped0 cc1_scoped1 cc1_scoped2 cc1_scoped3 cc1_scoped4)
          fun _ => MSt m d pv i O W q qi (words m d i) (gath m d pv i 96) 128 := by
  rw [cc1__masks_body_eq_skeleton]; unfold cc1__masks_body_skel
  refine mstep_part ?_
  rw [k1_part1_eq_skeleton]; unfold k1_part1_skel; dsimp only
  refine mstep_fetch (b := 1) rfl ClosedOff.eq ?_
  refine mstep_gather (b := 0) hm rfl rfl ?_
  refine mstep_out 2 rfl ClosedOff.eq (by omega) ?_
  refine mstep_wait rfl (by omega) ?_
  refine mstep_gather (b := 0) hm rfl rfl ?_
  refine mstep_out 3 rfl ClosedOff.eq (by omega) ?_
  refine mstep_ret ?_
  try dsimp only
  refine mstep_wait rfl (by omega) ?_
  refine mstep_gather (b := 0) hm rfl rfl ?_
  refine mstep_out 4 rfl ClosedOff.eq (by omega) ?_
  refine mstep_wait rfl (by omega) ?_
  refine mstep_gather (b := 0) hm rfl rfl ?_
  refine mstep_out 5 rfl ClosedOff.eq (by omega) ?_
  refine mstep_wait rfl (by omega) ?_
  exact mstep_ret .rfl

/-! ## What a tile is handed -/

abbrev mcoreNo : Fin 2 := ⟨(i 0).val, (i 0).isLt⟩
abbrev tileNo : Fin 16 := ⟨(i 1).val, (i 1).isLt⟩

/-- A tile's share of what all of them read: its leaf of its SparseCore's. -/
abbrev tileQ (c : Fin 2) (s : Fin 16) : PosShare TreeShare := leaf 4 (leaf 1 fullShare c) s

/-- What a tile is handed, with its block of the output at `f`. -/
def block (f : Buf (Elt F) (mrowLoc d)) : sProp 𝕄 :=
  iprop((padLoc d ↦{tileQ (mcoreNo i) (tileNo i)} pv) ∗ (idsLoc d ↦{tileQ (mcoreNo i) (tileNo i)} m (idsLoc d))
    ∗ (mrowLoc d ↦[mrows (mbase i) (mbase i + 128)]{fullShare} f))

instance block_storable (f : Buf (Elt F) (mrowLoc d)) : BI.Storable (upEmb : UEmb _ 𝕄) (block m d pv i f) := by
  unfold block; infer_instance

/-! ## Semaphores and scratch buffers -/

theorem tSem_inj : Function.Injective tSem := fun a b h => Fin.ext (by simpa [tSem] using congrArg Fin.val h)

/-- The tile's six semaphores as cells. -/
def tileCell : Fin 6 ↪ GSem nD τ sig :=
  ⟨fun b => (tileT d i, SemLoc.dma (tSem b)), fun a b h => tSem_inj (by
    have := congrArg Prod.snd h
    simpa using this)⟩

abbrev tileCells : Finset (GSem nD τ sig) := Finset.univ.map (tileCell d i)

theorem tileCells_sub : tileCells d i ⊆ ownCells (tileT d i) := by
  intro g hg
  obtain ⟨b, -, rfl⟩ := Finset.mem_map.1 hg
  refine mem_ownCells.2 ⟨rfl, ?_⟩
  show (SemLoc.dma (tSem b) : SemLoc sig).isScoped .scVector = true
  clear hg; revert b; decide

theorem ownSems0_tile :
    (ownSems0 (tileT d i) : sProp 𝕄)
      = iprop(bigSep Finset.univ (rest d i) ∗ bigSep (ownCells (tileT d i) \ tileCells d i) fun g => semVal g 0) := by
  unfold SparseCore.Cfg.ownSems0
  rw [SparseCore.bigSep_sdiff_split' (tileCells_sub d i), BI.bigSep_map]
  rfl

/-- The tile's processor. -/
abbrev tileP : Proc τ := .scVector ((i 0).castLE hcore1) ((i 1).castLE hsub1)

theorem ownBufs_tile :
    (ownBufs (tileT d i) : sProp 𝕄)
      = iprop((∃ f, (tileT d i).loc cc1_scratch0 ↦{fullShare} f) ∗ (∃ f, (tileT d i).loc cc1_scratch1 ↦{fullShare} f)
          ∗ bigSep (((ownRefs (τ := τ) (tileP i)).erase ((tileP i).devRef cc1_scratch0)).erase ((tileP i).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := tileP i) (b := (tileP i).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := tileP i) (b := (tileP i).devRef cc1_scratch1) rfl⟩)]

theorem mrow_none (a : ℕ) (f : Buf (Elt F) (mrowLoc d)) : (mrowLoc d ↦[mrows a a]{fullShare} f : sProp 𝕄) = iprop(emp) := by
  rw [mrows_self a]
  exact pointsTo_empty

variable [FloatOps F]

/-- The mask gather on a tile: from its block of the output at the launch contents to the block gathered, with all its
    buffers and semaphores given back. -/
theorem masks_body (hm : IdsOk m) (hO : ∀ g, O g none = 0) :
    iprop(levAts (K (F := F)).L (K (F := F)).lev ∗ emp ∗ block m d pv i (m (mrowLoc d))
        ∗ scopedBufs (tileT d i) ∗ scopedSems0 (tileT d i) ∗ owes (tileT d i) O W)
      ⊢ wp frame (wpE (defs₀ (F := F)) 𝒱₀ (tileT d i) none) Set.univ
          (cc1__masks_body i padV (Memref.isWhole_whole _) idsV (Memref.isWhole_whole _) mskV (Memref.isWhole_whole _)
            winV (Memref.isWhole_whole _) rowV (Memref.isWhole_whole _) cc1_scratch2 cc1_scoped0 cc1_scoped1 cc1_scoped2 cc1_scoped3 cc1_scoped4)
          fun _ => iprop(block m d pv i (mrowVal m d pv) ∗ scopedBufs (tileT d i) ∗ scopedSems0 (tileT d i)
            ∗ ∃ W', ⌜∀ p ∈ W', p ∈ W ∨ p.2 = none⌝ ∗ owes (tileT d i) O W') := by
  rw [(K (F := F)).scopedBufs_V launchFacts d, SparseCore.Cfg.scopedSems0_V (Val := Elt F) d, ownSems0_tile, ownBufs_tile]
  unfold block
  iintro ⟨#Hlv, -, ⟨Hp, Hids, Hh⟩, ⟨⟨%fo, Hwin⟩, ⟨%fr, Hrow⟩, Hbufs⟩, ⟨Hs, Hcells⟩, HO⟩
  ihave Hmw := ((K (F := F)).mayWaits_none (thr := tileT d i) hO) $$ Hlv
  ihave Hrun := (masks_run m d pv i O W (tileQ (mcoreNo i) (tileNo i)) (tileQ (mcoreNo i) (tileNo i)) hm fo fr) $$ [Hmw Hwin Hrow Hids Hp Hs HO Hh]
  · unfold MSt mfix mdebts rowPts
    rw [show mbase i + 0 = mbase i from rfl, mrow_none]
    isplitl [Hmw Hwin Hp Hids]
    · isplitl [Hmw]; · iexact Hmw
      isplitl [Hwin]; · iexact Hwin
      isplitl [Hp]; · iexact Hp
      iexact Hids
    isplitl [HO]
    · iexists W; isplitr
      · ipureintro; exact fun p hp => .inl hp
      · iexact HO
    isplitl [Hrow]; · iexact Hrow
    isplitr; · iempintro
    isplitl [Hh]; · iexact Hh
    iexact Hs
  iapply (wp_wand_r frame (wpE (defs₀ (F := F)) 𝒱₀ (tileT d i) none) Set.univ) $$ [Hrun Hbufs Hcells]
  isplitl [Hrun]; · iexact Hrun
  iintro %_ H
  unfold MSt mfix mdebts rowPts
  icases H with ⟨⟨-, Hwin, Hp, Hids⟩, HO, Hrow, Hh, -, Hs⟩
  isplitl [Hp Hids Hh]
  · isplitl [Hp]; · iexact Hp
    isplitl [Hids]; · iexact Hids
    iexact Hh
  isplitl [Hwin Hrow Hbufs]
  · isplitl [Hwin]; · iexists _; iexact Hwin
    isplitl [Hrow]; · iexists _; iexact Hrow
    iexact Hbufs
  isplitl [Hs Hcells]
  · isplitl [Hs]; · iexact Hs
    iexact Hcells
  iexact HO

end Cert.Proof.Emo

end
-- ==== Proof.Split.lean ====
/-
  How the whole arrays split over the threads of the two calls, and join again: the table and the index list by shares, the
  row output in two halves, the mask output in 2 × 16 blocks of 128 rows.
-/
module

public import proofs.«01_k».proof.Proof.Scalar
public import proofs.«01_k».proof.Proof.MasksBody

@[expose] public section

set_option maxRecDepth 16384

noncomputable section

namespace Cert.Proof.Emo

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf pointsTo_leaves)

variable {F : FTy → Type}

local notation "𝕄" => MT nD τ sig (HIx 2) (Elt F) ℕ UU ℕ

variable (m : (ℓ : Loc nD τ sig) → Buf (Elt F) ℓ) (d : Dev nD) (pv : Buf (Elt F) (padLoc d))

/-! ## The first call: two halves -/

/-- The grid point of the first call's SparseCore `c`. -/
def coordsS (c : Fin (grid0.bound 0)) : grid0.Coords := fun | 0 => c | ⟨_ + 1, h⟩ => absurd h (Nat.not_lt.2 (Nat.le_add_left _ _))

/-- The rows of SparseCore `c`'s half. -/
abbrev halfRows (c : Fin 2) : Finset S4096x32x768.Idx := rows (2048 * c.val) (2048 * c.val + 2048)

theorem halfRows_disjoint : ∀ a ∈ (Finset.univ : Finset (Fin 2)), ∀ b ∈ (Finset.univ : Finset (Fin 2)), a ≠ b → Disjoint (halfRows a) (halfRows b) := by
  intro a _ b _ hab
  refine Finset.disjoint_left.2 fun i h h' => hab (Fin.ext ?_)
  rw [mem_rows] at h h'; omega

theorem halfRows_cover : (Finset.univ : Finset (Fin 2)).biUnion halfRows = Finset.univ := by
  ext i
  simp only [Finset.mem_biUnion, Finset.mem_univ, true_and, mem_rows, iff_true]
  have h : (i 0).val < 4096 := (i 0).isLt
  exact ⟨⟨(i 0).val / 2048, by omega⟩, by dsimp only; omega, by dsimp only; omega⟩

/-- The whole row output is its two halves. -/
theorem hid_halves (f : Buf (Elt F) (hidLoc d)) :
    (hidLoc d ↦{fullShare} f : sProp 𝕄) = bigSep Finset.univ fun c : Fin 2 => hidLoc d ↦[halfRows c]{fullShare} f := by
  rw [← pointsTo_biUnion Finset.univ (ℓ := hidLoc d) halfRows halfRows_disjoint, halfRows_cover]; try rfl

/-- The table, the index list and the row output, whole, are what the two sequencers are handed. -/
theorem halves (f : Buf (Elt F) (hidLoc d)) :
    (iprop((condLoc d ↦{fullShare} m (condLoc d)) ∗ (idsLoc d ↦{fullShare} m (idsLoc d)) ∗ (hidLoc d ↦{fullShare} f)) : sProp 𝕄)
      = bigSep Finset.univ fun c : Fin 2 => half m d (coordsS c) f := by
  have h : (fun c : Fin 2 => half m d (coordsS c) f) = fun c : Fin 2 => iprop((condLoc d ↦{leaf 1 fullShare c} m (condLoc d))
      ∗ (idsLoc d ↦{leaf 1 fullShare c} m (idsLoc d)) ∗ (hidLoc d ↦[halfRows c]{fullShare} f)) := rfl
  rw [h, bigSep_sep', bigSep_sep', ← hid_halves]
  congr 1
  · exact pointsTo_leaves (ℓ := condLoc d) Finset.univ (m (condLoc d)) 1 fullShare
  congr 1
  exact pointsTo_leaves (ℓ := idsLoc d) Finset.univ (m (idsLoc d)) 1 fullShare

/-! ## The second call: two SparseCores, sixteen tiles of each -/

/-- The grid point of the second call's tile `s` of SparseCore `c`. -/
def coordsV (c : Fin (grid1.bound 0)) (s : Fin (grid1.bound 1)) : grid1.Coords :=
  fun | 0 => c | 1 => s | ⟨_ + 2, h⟩ => absurd h (Nat.not_lt.2 (Nat.le_add_left _ _))

/-- The rows of one tile's block. -/
abbrev tileRows (c : Fin 2) (s : Fin 16) : Finset S4096x128.Idx := mrows (256 * s.val + 128 * c.val) (256 * s.val + 128 * c.val + 128)

/-- The rows of one SparseCore's sixteen blocks. -/
def coreRows (c : Fin 2) : Finset S4096x128.Idx := Finset.univ.biUnion (tileRows c)

theorem tileRows_disjoint (c : Fin 2) : ∀ a ∈ (Finset.univ : Finset (Fin 16)), ∀ b ∈ (Finset.univ : Finset (Fin 16)), a ≠ b → Disjoint (tileRows c a) (tileRows c b) := by
  intro a _ b _ hab
  refine Finset.disjoint_left.2 fun i h h' => hab (Fin.ext ?_)
  rw [mem_mrows] at h h'; omega

theorem coreRows_disjoint : ∀ a ∈ (Finset.univ : Finset (Fin 2)), ∀ b ∈ (Finset.univ : Finset (Fin 2)), a ≠ b → Disjoint (coreRows a) (coreRows b) := by
  intro a _ b _ hab
  refine Finset.disjoint_left.2 fun i h h' => hab (Fin.ext ?_)
  obtain ⟨s, -, h⟩ := Finset.mem_biUnion.1 h
  obtain ⟨t, -, h'⟩ := Finset.mem_biUnion.1 h'
  rw [mem_mrows] at h h'; omega

theorem coreRows_cover : (Finset.univ : Finset (Fin 2)).biUnion coreRows = Finset.univ := by
  ext i
  simp only [coreRows, Finset.mem_biUnion, Finset.mem_univ, true_and, mem_mrows, iff_true]
  have h : (i 0).val < 4096 := (i 0).isLt
  exact ⟨⟨(i 0).val / 128 % 2, by omega⟩, ⟨(i 0).val / 256, by omega⟩, by dsimp only; omega, by dsimp only; omega⟩

/-- The whole mask output is its SparseCores' parts. -/
theorem mrow_cores (f : Buf (Elt F) (mrowLoc d)) :
    (mrowLoc d ↦{fullShare} f : sProp 𝕄) = bigSep Finset.univ fun c : Fin 2 => mrowLoc d ↦[coreRows c]{fullShare} f := by
  rw [← pointsTo_biUnion Finset.univ (ℓ := mrowLoc d) coreRows coreRows_disjoint, coreRows_cover]; try rfl

/-- A SparseCore's part is its tiles' blocks. -/
theorem mrow_tiles (c : Fin 2) (f : Buf (Elt F) (mrowLoc d)) :
    (mrowLoc d ↦[coreRows c]{fullShare} f : sProp 𝕄) = bigSep Finset.univ fun s : Fin 16 => mrowLoc d ↦[tileRows c s]{fullShare} f := by
  rw [← pointsTo_biUnion Finset.univ (ℓ := mrowLoc d) (tileRows c) (tileRows_disjoint c)]; try rfl

/-- What the second call hands SparseCore `c`, with its part of the output at `f`. -/
def part (c : Fin 2) (f : Buf (Elt F) (mrowLoc d)) : sProp 𝕄 :=
  iprop((padLoc d ↦{leaf 1 fullShare c} pv) ∗ (idsLoc d ↦{leaf 1 fullShare c} m (idsLoc d)) ∗ (mrowLoc d ↦[coreRows c]{fullShare} f))

instance part_storable (c : Fin 2) (f : Buf (Elt F) (mrowLoc d)) : BI.Storable (upEmb : UEmb _ 𝕄) (part m d pv c f) := by
  unfold part; infer_instance

/-- The padded masks, the index list and the mask output, whole, are what the two SparseCores are handed. -/
theorem parts (f : Buf (Elt F) (mrowLoc d)) :
    (iprop((padLoc d ↦{fullShare} pv) ∗ (idsLoc d ↦{fullShare} m (idsLoc d)) ∗ (mrowLoc d ↦{fullShare} f)) : sProp 𝕄)
      = bigSep Finset.univ fun c : Fin 2 => part m d pv c f := by
  unfold part
  rw [bigSep_sep', bigSep_sep', ← mrow_cores]
  congr 1
  · exact pointsTo_leaves (ℓ := padLoc d) Finset.univ pv 1 fullShare
  congr 1
  exact pointsTo_leaves (ℓ := idsLoc d) Finset.univ (m (idsLoc d)) 1 fullShare

/-- What a SparseCore is handed is what its sixteen tiles are. -/
theorem blocks (c : Fin 2) (f : Buf (Elt F) (mrowLoc d)) :
    (part m d pv c f : sProp 𝕄) = bigSep Finset.univ fun s : Fin 16 => block m d pv (coordsV c s) f := by
  have h : (fun s : Fin 16 => block m d pv (coordsV c s) f) = fun s : Fin 16 => iprop((padLoc d ↦{leaf 4 (leaf 1 fullShare c) s} pv)
      ∗ (idsLoc d ↦{leaf 4 (leaf 1 fullShare c) s} m (idsLoc d)) ∗ (mrowLoc d ↦[tileRows c s]{fullShare} f)) := rfl
  rw [h, bigSep_sep', bigSep_sep', ← mrow_tiles]
  unfold part
  congr 1
  · exact pointsTo_leaves (ℓ := padLoc d) Finset.univ pv 4 (leaf 1 fullShare c)
  congr 1
  exact pointsTo_leaves (ℓ := idsLoc d) Finset.univ (m (idsLoc d)) 4 (leaf 1 fullShare c)

end Cert.Proof.Emo

end
-- ==== Proof.Launch.lean ====
/-
  The launch: what the two calls carry to the sequencers and the tiles and back, the host operations around them, and the
  run of the whole program with the values of its two results.
-/
module

public import proofs.«01_k».proof.Proof.Split

@[expose] public section

set_option maxRecDepth 16384

noncomputable section

namespace Cert.Proof.Emo

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.ShareLeaves (leaf pointsTo_leaves)

variable {F : FTy → Type}

local notation "𝕄" => MT nD τ sig (HIx 2) (Elt F) ℕ UU ℕ

variable (m : (ℓ : Loc nD τ sig) → Buf (Elt F) ℓ) (ρ : Dev nD → PrngReg) (d : Dev nD)

/-! ## The values on the host -/

/-- The masks padded to 128 columns with zeros. -/
def padVal : Buf (Elt F) (padLoc d) :=
  pad (s := S1000x32) S1000x128 ![0, 0] ![0, 96] ![0, 0] (m (maskLoc d)) (constantI S_ 32 0#32) pads_S1000x32_S1000x128_000_0960 h_S_

/-- The second result: the first 32 columns of the padded masks' rows. -/
def resVal : Buf (Elt F) (resLoc d) :=
  extractStridedSlice (s := S4096x128) S4096x32 ![0, 0] (mrowVal m d (padVal m d)) slices_S4096x128_S4096x32_0_0

/-! ## What the handshakes carry -/

/-- Call 0 hands each sequencer its half; call 1 each SparseCore its part, and each tile its block. They come back with the
    output gathered. -/
def P : (K (F := F)).Pay (nD := nD) (Val := Elt F) (Name := ℕ) (U := UU) where
  st := fun q d => match q with
    | 0 => fun c => half m d (coordsS c) (m (hidLoc d))
    | 1 => fun c => part m d (padVal m d) c (m (mrowLoc d))
  dn := fun q d => match q with
    | 0 => fun c => half m d (coordsS c) (hidVal m d)
    | 1 => fun c => part m d (padVal m d) c (mrowVal m d (padVal m d))
  go := fun q d => match q with
    | 0 => fun _ _ => iprop(emp)
    | 1 => fun c s => block m d (padVal m d) (coordsV c s) (m (mrowLoc d))
  td := fun q d => match q with
    | 0 => fun _ _ => iprop(emp)
    | 1 => fun c s => block m d (padVal m d) (coordsV c s) (mrowVal m d (padVal m d))
  x := fun _ _ => iprop(emp)

instance P_storable : (P (F := F) m).IsStorable where
  st q d := match q with
    | 0 => fun c => half_storable m d (coordsS c) (m (hidLoc d))
    | 1 => fun c => part_storable m d (padVal m d) c (m (mrowLoc d))
  dn q d := match q with
    | 0 => fun c => half_storable m d (coordsS c) (hidVal m d)
    | 1 => fun c => part_storable m d (padVal m d) c (mrowVal m d (padVal m d))
  go q d := match q with
    | 0 => fun _ _ => (inferInstance : BI.Storable (upEmb : UEmb _ 𝕄) iprop(emp))
    | 1 => fun c s => block_storable m d (padVal m d) (coordsV c s) (m (mrowLoc d))
  td q d := match q with
    | 0 => fun _ _ => (inferInstance : BI.Storable (upEmb : UEmb _ 𝕄) iprop(emp))
    | 1 => fun c s => block_storable m d (padVal m d) (coordsV c s) (mrowVal m d (padVal m d))

/-! ## The obligations of the two kernels -/

/-- The waits a body records are among those that a call allows. -/
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- A SparseCore's tiles' blocks are handed out of its part, and brought back make it whole. -/
theorem vecSplit : (K (F := F)).VecSplit' (P m) 1 := by
  intro d c
  show part m d (padVal m d) c (m (mrowLoc d)) ⊢ |={Set.univ}=> iprop(
      (bigSep Finset.univ fun s : Fin 16 => block m d (padVal m d) (coordsV c s) (m (mrowLoc d)))
      ∗ ((bigSep Finset.univ fun s : Fin 16 => block m d (padVal m d) (coordsV c s) (mrowVal m d (padVal m d)))
          -∗ part m d (padVal m d) c (mrowVal m d (padVal m d))))
  rw [blocks, blocks]
  iintro H; imodintro
  isplitl [H]; · iexact H
  iintro H; iexact H

variable [FloatOps F]

theorem defs₀_scalar (c : Fin τ.nSC) :
    defs₀ (F := F) (.scScalar c) 0 ()
      = SparseCore.onCore hcore0 (fun c => cc0__rows_body (coordsS c) tabW (Memref.isWhole_whole _) idsW (Memref.isWhole_whole _)
          outW (Memref.isWhole_whole _) winW (Memref.isWhole_whole _) cc0_scratch1 cc0_scoped0) ⟨⟩ c := rfl

theorem defs₀_vector (c : Fin τ.nSC) (s : Fin τ.nSub) :
    defs₀ (F := F) (.scVector c s) 1 ()
      = SparseCore.onTile hcore1 hsub1 (fun c s => cc1__masks_body (coordsV c s) padV (Memref.isWhole_whole _) idsV (Memref.isWhole_whole _)
          mskV (Memref.isWhole_whole _) winV (Memref.isWhole_whole _) rowV (Memref.isWhole_whole _) cc1_scratch2 cc1_scoped0 cc1_scoped1
          cc1_scoped2 cc1_scoped3 cc1_scoped4) ⟨⟩ c s := rfl

/-- Each sequencer runs the row engine. -/
theorem scalarObl (hm : IdsOk m) : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  exact (rows_body m d (coordsS ⟨_, hc⟩) O W hm hO).trans (wp_mono frame _ _ fun _ => obl_post)

/-- Each tile runs the mask gather. -/
theorem tileObl (hm : IdsOk m) : (K (F := F)).TileObl (D (F := F)) 𝒱 (P m) v₀ 1 := by
  intro d c s O W hO _ _
  simp only [show (P m).ox = fun _ _ => 0 from rfl, add_zero]
  have hcs : ((K (F := F)).core 1 c).val < grid1.bound 0 ∧ ((K (F := F)).sub 1 s).val < grid1.bound 1 := ⟨c.isLt, s.isLt⟩
  change _ ⊢ wp _ _ _ (Pipeline.liftProg (defs₀ (F := F) (.scVector ((K (F := F)).core 1 c) ((K (F := F)).sub 1 s)) 1 ())) _
  refine BI.Entails.trans ?_ (Pipeline.wp_liftProg (D (F := F)) (Pipeline.defs_kernel pcfgs defs₀) 𝒱₀ _ Set.univ none _ _)
  rw [defs₀_vector]; simp only [SparseCore.onTile, hcs, and_self, ↓reduceDIte]
  exact (masks_body m d (padVal m d) (coordsV ⟨_, hcs.1⟩ ⟨_, hcs.2⟩) O W hm hO).trans (wp_mono frame _ _ fun _ => obl_post)

/-! ## The launch element -/

def u₀ : UU := (initOf (K (F := F)).hsCells (K (F := F)).hsToks, 1)

omit [FloatOps F] in
theorem emps {I : Type} (s : Finset I) : (bigSep s fun _ => iprop(emp)) = (iprop(emp) : sProp 𝕄) := bigSep_emp_const s

omit [FloatOps F] in
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 2 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emps]; iempintro
  rw [show (bigSep Finset.univ fun thr : Thread nD τ => bigSep Finset.univ fun q : Fin 2 => (P (F := F) m).x q thr) = bigSep Finset.univ fun _ => iprop(emp) from
    bigSep_congr fun _ _ => emps _, emps]
  iempintro

/-! ## The host operations -/

abbrev opZero : HloOp τ sig (Elt F) := StableHlo.nullary main_c (constantI S_ 32 0#32)
abbrev opConv : HloOp τ sig (Elt F) := StableHlo.TRef.unary (.of main_c) main_call0.v0 id
abbrev opPad : HloOp τ sig (Elt F) :=
  StableHlo.TRef.binary (.of main_arg1 : StableHlo.TRef sig ⟨S1000x32, .i32⟩) main_call0.v0 main_call0.v1
    (fun x v => pad S1000x128 ![0, 0] ![0, 96] ![0, 0] x v pads_S1000x32_S1000x128_000_0960 h_S_)
abbrev opCut : HloOp τ sig (Elt F) :=
  StableHlo.unary main_v2 main_v3 ((extractStridedSlice S4096x32 ![0, 0] · slices_S4096x128_S4096x32_0_0)
    : (⟨S4096x128, .i32⟩ : BufTy).Contents (Elt F) → (⟨S4096x32, .i32⟩ : BufTy).Contents (Elt F))

abbrev dv (b : Ref sig .tc) : DevRef τ sig := Proc.devRef .tc b

/-- The TensorCore's arrays. -/
abbrev hostBufs : Finset (DevRef τ sig) :=
  {dv main_arg0, dv main_arg1, dv main_arg2, dv main_c, dv main_call0_v0, dv main_v0, dv main_v1, dv main_v2, dv main_v3}

omit [FloatOps F] in
theorem held_hostBufs (W : Valuation τ sig (Elt F)) :
    (held (SparseCore.T d) hostBufs W : sProp 𝕄) = iprop((condLoc d ↦{fullShare} W (dv main_arg0)) ∗ (maskLoc d ↦{fullShare} W (dv main_arg1))
      ∗ (idsLoc d ↦{fullShare} W (dv main_arg2)) ∗ ((SparseCore.T d).loc main_c ↦{fullShare} W (dv main_c)) ∗ ((SparseCore.T d).loc main_call0_v0 ↦{fullShare} W (dv main_call0_v0))
      ∗ (padLoc d ↦{fullShare} W (dv main_v0)) ∗ (hidLoc d ↦{fullShare} W (dv main_v1)) ∗ (mrowLoc d ↦{fullShare} W (dv main_v2))
      ∗ (resLoc d ↦{fullShare} W (dv main_v3))) := by
  unfold held hostBufs
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- The launch memory of device `d` as a valuation. -/
def V0 : Valuation τ sig (Elt F) := fun b => m (d, b)

omit [FloatOps F] in
theorem unscoped_held : (unscopedBufs d (fun b => m ((SparseCore.T d).loc b)) : sProp 𝕄) = held (SparseCore.T d) hostBufs (V0 m d) := by
  unfold unscopedBufs
  rw [held_hostBufs, show (Finset.univ.filter fun b : Ref sig .tc => ¬ b.isScoped)
      = {main_arg0, main_arg1, main_arg2, main_c, main_call0_v0, main_v0, main_v1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]
  rfl

/-- The arrays once the masks are padded. -/
def V3 : Valuation τ sig (Elt F) := (opPad (F := F)).result ((opConv (F := F)).result ((opZero (F := F)).result (V0 m d)))

omit [FloatOps F] in
theorem V3_other {b : DevRef τ sig} (h0 : b ≠ dv main_c) (h1 : b ≠ dv main_call0_v0) (h2 : b ≠ dv main_v0) : V3 m d b = m (d, b) := by
  unfold V3
  rw [(opPad (F := F)).result_of_not_mem _ (b := b) (fun h => h2 (Finset.mem_singleton.1 h)),
    (opConv (F := F)).result_of_not_mem _ (b := b) (fun h => h1 (Finset.mem_singleton.1 h)),
    (opZero (F := F)).result_of_not_mem _ (b := b) (fun h => h0 (Finset.mem_singleton.1 h))]
  rfl

omit [FloatOps F] in
theorem V3_pad : V3 m d (dv main_v0) = padVal m d := by
  unfold V3 padVal
  rw [StableHlo.binary_result', StableHlo.unary_result', StableHlo.nullary_result', StableHlo.unary_result_ne' _ _ _ _ (by decide),
    StableHlo.nullary_result_ne' _ _ _ (by decide)]
  rfl

omit [FloatOps F] in
/-- The arrays once the masks are padded: only the padded masks are of interest beside the launch contents. -/
theorem held_V3 : (held (SparseCore.T d) hostBufs ((opPad (F := F)).result ((opConv (F := F)).result ((opZero (F := F)).result (V0 m d)))) : sProp 𝕄)
    = iprop((condLoc d ↦{fullShare} m (condLoc d)) ∗ (maskLoc d ↦{fullShare} m (maskLoc d))
      ∗ (idsLoc d ↦{fullShare} m (idsLoc d)) ∗ ((SparseCore.T d).loc main_c ↦{fullShare} V3 m d (dv main_c))
      ∗ ((SparseCore.T d).loc main_call0_v0 ↦{fullShare} V3 m d (dv main_call0_v0))
      ∗ (padLoc d ↦{fullShare} padVal m d) ∗ (hidLoc d ↦{fullShare} m (hidLoc d)) ∗ (mrowLoc d ↦{fullShare} m (mrowLoc d))
      ∗ (resLoc d ↦{fullShare} m (resLoc d))) := by
  change (held (SparseCore.T d) hostBufs (V3 m d) : sProp 𝕄) = _
  rw [held_hostBufs, V3_pad, V3_other m d (b := dv main_arg0) (by decide) (by decide) (by decide), V3_other m d (b := dv main_arg1) (by decide) (by decide) (by decide),
    V3_other m d (b := dv main_arg2) (by decide) (by decide) (by decide), V3_other m d (b := dv main_v1) (by decide) (by decide) (by decide),
    V3_other m d (b := dv main_v2) (by decide) (by decide) (by decide), V3_other m d (b := dv main_v3) (by decide) (by decide) (by decide)]

omit [FloatOps F] in
theorem opZero_sub : (opZero (F := F)).bufs ⊆ hostBufs := show ({dv main_c} : Finset (DevRef τ sig)) ⊆ hostBufs by decide
omit [FloatOps F] in
theorem opConv_sub : (opConv (F := F)).bufs ⊆ hostBufs := show ({dv main_c, dv main_call0_v0} : Finset (DevRef τ sig)) ⊆ hostBufs by decide
omit [FloatOps F] in
theorem opPad_sub : (opPad (F := F)).bufs ⊆ hostBufs :=
  show ({dv main_arg1, dv main_call0_v0, dv main_v0} : Finset (DevRef τ sig)) ⊆ hostBufs by decide

/-- The arrays before the last operation, as far as it reads and writes them. -/
def V4 : Valuation τ sig (Elt F) := Function.update (V0 m d) (dv main_v2) (mrowVal m d (padVal m d))

omit [FloatOps F] in
theorem held_cut (W : Valuation τ sig (Elt F)) :
    (held (SparseCore.T d) {dv main_v2, dv main_v3} W : sProp 𝕄) = iprop((mrowLoc d ↦{fullShare} W (dv main_v2)) ∗ (resLoc d ↦{fullShare} W (dv main_v3))) := by
  unfold held
  rw [SparseCore.bigSep_insert' (by decide), bigSep_singleton]

omit [FloatOps F] in
theorem V4_mrow : V4 m d (dv main_v2) = mrowVal m d (padVal m d) := Function.update_self _ _ _
omit [FloatOps F] in
theorem V4_res : V4 m d (dv main_v3) = m (resLoc d) := Function.update_of_ne (show dv main_v3 ≠ dv main_v2 by decide) _ _

omit [FloatOps F] in
theorem V5_res : (opCut (F := F)).result (V4 m d) (dv main_v3) = resVal m d := by
  rw [StableHlo.unary_result', V4_mrow]; rfl

/-! ## @main on the TensorCore -/

/-- What the calls take for their SparseCores, and what they hand back. -/
theorem st0_eq : (bigSep Finset.univ fun c : Fin ((K (F := F)).nCore 0) => (P m).st 0 d c)
    = iprop((condLoc d ↦{fullShare} m (condLoc d)) ∗ (idsLoc d ↦{fullShare} m (idsLoc d)) ∗ (hidLoc d ↦{fullShare} m (hidLoc d))) :=
  (halves m d (m (hidLoc d))).symm
theorem dn0_eq : (bigSep Finset.univ fun c : Fin ((K (F := F)).nCore 0) => (P m).dn 0 d c)
    = iprop((condLoc d ↦{fullShare} m (condLoc d)) ∗ (idsLoc d ↦{fullShare} m (idsLoc d)) ∗ (hidLoc d ↦{fullShare} hidVal m d)) :=
  (halves m d (hidVal m d)).symm
theorem st1_eq : (bigSep Finset.univ fun c : Fin ((K (F := F)).nCore 1) => (P m).st 1 d c)
    = iprop((padLoc d ↦{fullShare} padVal m d) ∗ (idsLoc d ↦{fullShare} m (idsLoc d)) ∗ (mrowLoc d ↦{fullShare} m (mrowLoc d))) :=
  (parts m d (padVal m d) (m (mrowLoc d))).symm
theorem dn1_eq : (bigSep Finset.univ fun c : Fin ((K (F := F)).nCore 1) => (P m).dn 1 d c)
    = iprop((padLoc d ↦{fullShare} padVal m d) ∗ (idsLoc d ↦{fullShare} m (idsLoc d)) ∗ (mrowLoc d ↦{fullShare} mrowVal m d (padVal m d))) :=
  (parts m d (padVal m d) (mrowVal m d (padVal m d))).symm

/-- What @main leaves: the arguments at their launch contents, the two results at their values. -/
abbrev FIN : sProp 𝕄 :=
  iprop((condLoc d ↦{fullShare} m (condLoc d)) ∗ (maskLoc d ↦{fullShare} m (maskLoc d)) ∗ (idsLoc d ↦{fullShare} m (idsLoc d))
    ∗ (hidLoc d ↦{fullShare} hidVal m d) ∗ (resLoc d ↦{fullShare} resVal m d))

/-- @main on device `d`'s TensorCore: the masks padded, the row call, the mask call, the padding cut off. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [unscoped_held]
  simp only [main, fn_pad.body, wp_bind, wp_pure]
  iintro ⟨#Hctx, Hst, ⟨Hb, Hheld, Hts, -⟩, -⟩
  -- the padding
  iapply (wp_hlo_within 𝒱 (SparseCore.T d) none Set.univ (op := opZero) (S := hostBufs) opZero_sub (V := V0 m d)) $$ [Hb Hheld]
  · isplitl [Hb] <;> iassumption
  iintro ⟨Hb, Hheld⟩
  rw [wp_ret]; imodintro
  iapply (wp_hlo_within 𝒱 (SparseCore.T d) none Set.univ (op := opConv) (S := hostBufs) opConv_sub (V := (opZero (F := F)).result (V0 m d))) $$ [Hb Hheld]
  · isplitl [Hb] <;> iassumption
  iintro ⟨Hb, Hheld⟩
  rw [wp_ret]; imodintro
  iapply (wp_hlo_within 𝒱 (SparseCore.T d) none Set.univ (op := opPad) (S := hostBufs) opPad_sub
    (V := (opConv (F := F)).result ((opZero (F := F)).result (V0 m d)))) $$ [Hb Hheld]
  · isplitl [Hb] <;> iassumption
  iintro ⟨Hb, Hheld⟩
  rw [wp_ret]; imodintro; imodintro
  ihave Hh := (Entails.of_eq (held_V3 (F := F) m d)) $$ Hheld
  icases Hh with ⟨Hc, Hm, Hi, -, -, Hp, Hh, Hr, Ho⟩
  -- the rows, on the sequencers
  iapply ((K (F := F)).wp_run (D (F := F)) 𝒱 (EH := EH) (P := P m) κ d 0) $$ [Hst Hc Hm Hi Hp Hh Hr Ho Hb Hts]
  isplitr; · iexact Hctx
  isplitl [Hst]; · iexact Hst
  isplitl [Hc Hi Hh]
  · rw [st0_eq]
    isplitl [Hc]; · iexact Hc
    isplitl [Hi]; · iexact Hi
    iexact Hh
  iintro ⟨Hst, Hdn⟩
  ihave Hdn' := (Entails.of_eq (dn0_eq m d)) $$ Hdn
  icases Hdn' with ⟨Hc, Hi, Hh⟩
  -- the masks, on the tiles
  iapply ((K (F := F)).wp_run (D (F := F)) 𝒱 (EH := EH) (P := P m) κ d 1) $$ [Hst Hc Hm Hi Hp Hh Hr Ho Hb Hts]
  isplitr; · iexact Hctx
  isplitl [Hst]; · iexact Hst
  isplitl [Hp Hi Hr]
  · rw [st1_eq]
    isplitl [Hp]; · iexact Hp
    isplitl [Hi]; · iexact Hi
    iexact Hr
  iintro ⟨Hst, Hdn⟩
  ihave Hdn' := (Entails.of_eq (dn1_eq m d)) $$ Hdn
  icases Hdn' with ⟨-, Hi, Hr⟩
  -- the padding cut off
  iapply (wp_hlo_within 𝒱 (SparseCore.T d) none Set.univ (op := opCut) (S := {dv main_v2, dv main_v3}) (Finset.Subset.refl _) (V := V4 m d)) $$ [Hb Hr Ho]
  · isplitl [Hb]; · iexact Hb
    rw [held_cut, V4_mrow, V4_res]
    isplitl [Hr]; · iexact Hr
    iexact Ho
  iintro ⟨Hb, Hheld⟩
  ihave Hh' := (Entails.of_eq (held_cut (F := F) d _)) $$ Hheld
  rw [V5_res]
  icases Hh' with ⟨-, Ho⟩
  rw [wp_ret]; imodintro; imodintro
  isplitl [Hst]; · iexact Hst
  isplitr [Hb Hts]
  · isplitl [Hc]; · iexact Hc
    isplitl [Hm]; · iexact Hm
    isplitl [Hi]; · iexact Hi
    isplitl [Hh]; · iexact Hh
    iexact Ho
  isplitl [Hb] <;> iassumption

/-- What the final memory of device `d` holds. -/
def fq (d : Dev nD) (s' : Phys nD τ sig (Elt F)) : Prop :=
  s'.mem.mem (condLoc d) = m (condLoc d) ∧ s'.mem.mem (maskLoc d) = m (maskLoc d) ∧ s'.mem.mem (idsLoc d) = m (idsLoc d)
    ∧ s'.mem.mem (hidLoc d) = hidVal m d ∧ s'.mem.mem (resLoc d) = resVal m d

omit [FloatOps F] in
/-- An array owned whole is what memory holds. -/
theorem holds_whole (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨Hx, HSI⟩
  ihave H := (persistent_entails_right (SI_pointsTo_agree (st := s') (ℓ := ℓ) (I := Finset.univ) (q := fullShare) (f := f))) $$ [HSI Hx]
  · isplitl [HSI] <;> iassumption
  icases H with ⟨%h, HSI, -⟩
  isplitr
  · ipureintro; exact funext fun i => h i (Finset.mem_univ i)
  · iexact HSI

omit [FloatOps F] in
theorem hfin (d : Dev nD) (s' : Phys nD τ sig (Elt F)) : iprop(FIN m d ∗ SI s') ⊢ (⌜fq m d s'⌝ : sProp 𝕄) := by
  iintro ⟨⟨Hc, Hm, Hi, Hh, Ho⟩, HSI⟩
  ihave H := (holds_whole s' (condLoc d) _) $$ [HSI Hc]
  · isplitl [Hc] <;> iassumption
  icases H with ⟨%h1, HSI⟩
  ihave H := (holds_whole s' (maskLoc d) _) $$ [HSI Hm]
  · isplitl [Hm] <;> iassumption
  icases H with ⟨%h2, HSI⟩
  ihave H := (holds_whole s' (idsLoc d) _) $$ [HSI Hi]
  · isplitl [Hi] <;> iassumption
  icases H with ⟨%h3, HSI⟩
  ihave H := (holds_whole s' (hidLoc d) _) $$ [HSI Hh]
  · isplitl [Hh] <;> iassumption
  icases H with ⟨%h4, HSI⟩
  ihave H := (holds_whole s' (resLoc d) _) $$ [HSI Ho]
  · isplitl [Ho] <;> iassumption
  icases H with ⟨%h5, -⟩
  ipureintro; exact ⟨h1, h2, h3, h4, h5⟩

/-! ## The program's run -/

/-- What the final state holds: on every device the arguments at their launch contents and the results at their values; and
    every semaphore counter zero. -/
def QC : PUnit × MemSt nD τ sig (Elt F) → Prop := fun r =>
  (∀ c : Dev nD, r.2.mem (condLoc c) = m (condLoc c) ∧ r.2.mem (maskLoc c) = m (maskLoc c) ∧ r.2.mem (idsLoc c) = m (idsLoc c)
    ∧ r.2.mem (hidLoc c) = hidVal m c ∧ r.2.mem (resLoc c) = resVal m c) ∧ r.2.sem = fun _ => 0

/-- The whole program, over any float values: it ends with its arguments unchanged, its results gathered, its counters zero. -/
theorem run_main [∀ e, Nonempty (Elt F e)] (hm : IdsOk m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) launchFacts v₀
    (fun q hq => match q with | 0 => scalarObl m hm | 1 => nomatch hq)
    (fun q hq => match q with | 0 => nomatch hq | 1 => tileObl m hm)
    (fun q hq => match q with | 0 => nomatch hq | 1 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Emo

end
-- ==== Proof.Values.lean ====
/-
  The values, index by index: what the precondition says of an index word, what the reference's two takes compute on index
  words below 1000, and what the padding and the final slice of the mask gather come to.
-/
module

public import proofs.«01_k».proof.Proof.Launch
public import proofs.«01_k».proof.Proof.Gen.Reference
public import proofs.«01_k».proof.Proof.Gen.Pre_ids_in_range
public import Idealize.ShloMosaic.Lib.ReduceAll

@[expose] public section

set_option maxRecDepth 16384

noncomputable section

namespace Cert.Proof.Emo

open Idealize.ShloMosaic

variable {F : FTy → Type} {α : Type}

/-- Rows of a table of 1000 rows of 32 words by a list of 4096 index words. -/
def takeMasks (x : Cert.Reference.S1000x32.Idx → α) (w : Cert.Reference.S4096.Idx → BitVec 32) : Cert.Reference.S4096x32.Idx → α :=
  fun i => x fun
    | ⟨0, _⟩ => rowNo (w (at1 (i 0)))
    | ⟨1, _⟩ => i 1

/-! ## The precondition -/

/-- Two signed comparisons that both came out true say that the word is a number below 1000. -/
theorem word_lt {w : BitVec 32} (h : IntOp.andi (IntOp.cmpi .sge w 0#32) (IntOp.cmpi .slt w 1000#32) = 1#1) : w.toNat < 1000 := by
  rw [IntOp.andi_eq_one, IntOp.cmpi_sge, IntOp.cmpi_slt] at h
  obtain ⟨h0, h1⟩ := h
  have e0 : (0#32 : BitVec 32).toInt = 0 := by decide
  have e1 : (1000#32 : BitVec 32).toInt = 1000 := by decide
  rw [e0, BitVec.toInt_eq_toNat_cond] at h0
  rw [e1, BitVec.toInt_eq_toNat_cond] at h1
  split at h0 <;> omega

/-- The precondition read at one position of the index list. -/
theorem ids_lt [FloatOps F] (x : FVec F Cert.Pre_ids_in_range.S1000x32x768 .f32) (y : IVec Cert.Pre_ids_in_range.S1000x32 32)
    (w : IVec Cert.Pre_ids_in_range.S4096 32) (h : Cert.Pre_ids_in_range.fn (F := F) x y w = fun _ => 1#1)
    (j : Cert.Pre_ids_in_range.S4096.Idx) : (w j).toNat < 1000 := by
  have e := congrFun h (fun a => a.elim0)
  simp only [Cert.Pre_ids_in_range.fn] at e
  haveI : Subsingleton Cert.Pre_ids_in_range.S_.Idx := ⟨fun a b => funext fun k => k.elim0⟩
  exact word_lt (Host.reduce_andi_all _ _ _ _ _ e j)

/-! ## The reference's takes -/

section Ref

open Cert.Reference Cert.Reference.Gen

variable (w : S4096.Idx → BitVec 32)

/-- The index list with 1000 added to its negative words. -/
def wrapped : S4096.Idx → BitVec 32 :=
  select (cmpi .slt w (broadcastInDim S4096 ![] bcast_S_S4096 (constantI S_ 32 0#32)))
    (addi w (broadcastInDim S4096 ![] bcast_S_S4096 (constantI S_ 32 1000#32))) w

/-- The wrapped index list as a column of start indices. -/
def starts : S4096x1.Idx → BitVec 32 := broadcastInDim S4096x1 ![0] bcast_S4096_S4096x1_0 (wrapped w)

/-- Per position of the list, whether its start index lies in `[0, 999]`. -/
def inTable : S4096.Idx → BitVec 1 :=
  Host.reduce IntOp.andi
    (andi (cmpi .sge (starts w) (broadcastInDim S4096x1 ![] bcast_S_S4096x1 (constantI S_ 32 0#32)))
      (cmpi .sle (starts w)
        (broadcastInDim S4096x1 ![0, 1] bcast_S1x1_S4096x1_0_1 (broadcastInDim S1x1 ![1] bcast_S1_S1x1_1 (constantI S1 32 999#32)))))
    (constantI S_ 1 1#1) reducesTo_S4096x1_S4096_d1 h_S_

/-- The reference's first result: the gathered slabs where the index lies in the table, a fill elsewhere. -/
def refSlabs (x : S1000x32x768.Idx → α) (fill : S4096x32x768.Idx → α) : S4096x32x768.Idx → α :=
  select (broadcastInDim S4096x32x768 ![0] bcast_S4096_S4096x32x768_0 (inTable w))
    (Host.gather gather_S1000x32x768_S4096x1_S4096x32x768_12_0_n_n_0_1_132768 x (starts w)) fill

/-- The reference's second result: the gathered mask rows where the index lies in the table, a fill elsewhere. -/
def refMasks (x : S1000x32.Idx → α) (fill : S4096x32.Idx → α) : S4096x32.Idx → α :=
  select (broadcastInDim S4096x32 ![0] bcast_S4096_S4096x32_0 (inTable w))
    (Host.gather gather_S1000x32_S4096x1_S4096x32_1_0_n_n_0_1_132 x (starts w)) fill

variable {w}

/-- A word below 1000, read as a signed number. -/
theorem small_toInt {v : BitVec 32} (h : v.toNat < 1000) : v.toInt = (v.toNat : ℤ) := by
  rw [BitVec.toInt_eq_toNat_cond, if_pos (by omega)]

/-- Words below 1000 are left as they are: none is negative. -/
theorem wrapped_eq (hw : ∀ j, (w j).toNat < 1000) : wrapped w = w := by
  funext j
  show (if IntOp.cmpi .slt (w j) 0#32 = 1#1 then _ else w j) = w j
  refine if_neg fun h => ?_
  rw [IntOp.cmpi_slt, small_toInt (hw j)] at h
  have e0 : (0#32 : BitVec 32).toInt = 0 := by decide
  omega

/-- The column's word at row `n` is the list's at `n`. -/
theorem starts_apply (hw : ∀ j, (w j).toNat < 1000) (p : S4096x1.Idx) : starts w p = w (at1 (p 0)) := by
  unfold starts
  rw [wrapped_eq hw]
  unfold broadcastInDim
  refine congrArg w (funext fun | ⟨0, _⟩ => ?_)
  refine (dif_neg (by decide : ¬ S4096.size 0 = 1)).trans ?_
  rfl

/-- Every index word below 1000 lies in the table. -/
theorem inTable_eq (hw : ∀ j, (w j).toNat < 1000) (j : S4096.Idx) : inTable w j = 1#1 := by
  refine Host.reduce_andi_one _ _ _ _ _ rfl fun p => ?_
  show IntOp.andi (IntOp.cmpi .sge (starts w p) 0#32) (IntOp.cmpi .sle (starts w p) 999#32) = 1#1
  rw [starts_apply hw, IntOp.andi_eq_one, IntOp.cmpi_sge, IntOp.cmpi_sle, small_toInt (hw _)]
  have h := hw (at1 (p 0))
  have e0 : (0#32 : BitVec 32).toInt = 0 := by decide
  have e1 : (999#32 : BitVec 32).toInt = 999 := by decide
  omega

/-- The clamp at 999 leaves a start index below 1000 as it is. -/
theorem clamp_small {v : BitVec 32} (h : v.toNat < 1000) : min v.toInt.toNat (1000 - 1) = (rowNo v).val := by
  rw [small_toInt h, rowNo_val h]; omega

/-- The start of a gathered row, clamped, is the row that the list's word names. -/
theorem start_small (hw : ∀ j, (w j).toNat < 1000) (p : S4096x1.Idx) :
    min (starts w p).toInt.toNat (1000 - 1) = (rowNo (w (at1 (p 0)))).val := by
  rw [starts_apply hw]; exact clamp_small (hw _)

/-- The slab gather at an index: the operand's slab that the start index names. -/
theorem gather_slabs (hw : ∀ j, (w j).toNat < 1000) (x : S1000x32x768.Idx → α) :
    Host.gather gather_S1000x32x768_S4096x1_S4096x32x768_12_0_n_n_0_1_132768 x (starts w) = takeSlabs x w := by
  funext i
  refine congrArg x (funext fun a => Fin.ext ?_)
  match a with
  | ⟨0, _⟩ =>
    show GatherDims.start _ i (starts w) 0 + GatherDims.batchCoord _ i 0 + GatherDims.offCoord _ i 0 = (rowNo (w (at1 (i 0)))).val
    rw [GatherDims.batchCoord_eq_zero _ _ _ List.not_mem_nil,
      GatherDims.offCoord_eq_zero _ _ _ (fun h => ((GatherDims.mem_sKept _ _).mp h).1 (List.mem_singleton.mpr rfl)), Nat.add_zero]
    exact (dif_pos (show (0 : Fin _) ∈ GatherDims.startIndexMap gather_S1000x32x768_S4096x1_S4096x32x768_12_0_n_n_0_1_132768 from List.mem_singleton.mpr rfl)).trans
      (start_small hw _)
  | ⟨1, _⟩ => exact Nat.zero_add _
  | ⟨2, _⟩ => exact Nat.zero_add _

/-- The mask gather at an index: the operand's row that the start index names. -/
theorem gather_masks (hw : ∀ j, (w j).toNat < 1000) (x : S1000x32.Idx → α) :
    Host.gather gather_S1000x32_S4096x1_S4096x32_1_0_n_n_0_1_132 x (starts w) = takeMasks x w := by
  funext i
  refine congrArg x (funext fun a => Fin.ext ?_)
  match a with
  | ⟨0, _⟩ =>
    show GatherDims.start _ i (starts w) 0 + GatherDims.batchCoord _ i 0 + GatherDims.offCoord _ i 0 = (rowNo (w (at1 (i 0)))).val
    rw [GatherDims.batchCoord_eq_zero _ _ _ List.not_mem_nil,
      GatherDims.offCoord_eq_zero _ _ _ (fun h => ((GatherDims.mem_sKept _ _).mp h).1 (List.mem_singleton.mpr rfl)), Nat.add_zero]
    exact (dif_pos (show (0 : Fin _) ∈ GatherDims.startIndexMap gather_S1000x32_S4096x1_S4096x32_1_0_n_n_0_1_132 from List.mem_singleton.mpr rfl)).trans
      (start_small hw _)
  | ⟨1, _⟩ => exact Nat.zero_add _

/-- On index words below 1000 the first result is the slabs taken, whatever the fill. -/
theorem refSlabs_eq (hw : ∀ j, (w j).toNat < 1000) (x : S1000x32x768.Idx → α) (fill : S4096x32x768.Idx → α) :
    refSlabs w x fill = takeSlabs x w := by
  unfold refSlabs
  rw [gather_slabs hw]
  exact funext fun i => if_pos (inTable_eq hw _)

/-- On index words below 1000 the second result is the mask rows taken, whatever the fill. -/
theorem refMasks_eq (hw : ∀ j, (w j).toNat < 1000) (x : S1000x32.Idx → α) (fill : S4096x32.Idx → α) :
    refMasks w x fill = takeMasks x w := by
  unfold refMasks
  rw [gather_masks hw]
  exact funext fun i => if_pos (inTable_eq hw _)

end Ref

/-! ## The kernel's second result -/

section Ker

open Cert.KernelIdeal Cert.KernelIdeal.Gen

variable (m : (ℓ : Loc nD τ sig) → Buf (Elt F) ℓ) (d : Dev nD)

/-- The padded rows' first 32 columns are the masks' rows: none of them reads the padding. -/
theorem resVal_eq : resVal m d = takeMasks (m (maskLoc d)) (m (idsLoc d)) := by
  funext i
  have h1 : (i 1).val < 32 := (i 1).isLt
  unfold resVal extractStridedSlice mrowVal takeRows padVal pad takeMasks
  dsimp only
  refine (dif_pos ?_).trans (congrArg (m (maskLoc d)) (idx2_ext (n := ![1000, 32]) ?_ ?_))
  · intro a
    match a with
    | ⟨0, _⟩ => exact ⟨Nat.zero_le _, Nat.mod_one _, (Nat.div_one _).trans_lt (Fin.isLt (rowNo _))⟩
    | ⟨1, _⟩ =>
      refine ⟨Nat.zero_le _, Nat.mod_one _, (Nat.div_one _).trans_lt ?_⟩
      show 0 + (i 1).val - 0 < 32
      omega
  · refine (Nat.div_one _).trans ((Nat.sub_zero _).trans ?_)
    refine congrArg (fun v => (rowNo (m (idsLoc d) v)).val) (Shape.idx1_ext ?_)
    show 0 + (i 0).val = (i 0).val
    omega
  · refine (Nat.div_one _).trans ((Nat.sub_zero _).trans ?_)
    show 0 + (i 1).val = (i 1).val
    omega

end Ker

end Cert.Proof.Emo

end
-- ==== Proof.Same.lean ====
/-
  The kernel at the machine's bits: its text is the ideal kernel's, so its run is the one already proved.
-/
module

public import proofs.«01_k».proof.Proof.Launch
public import proofs.«01_k».proof.Proof.Gen.Kernel

@[expose] public section

set_option maxRecDepth 16384
set_option maxHeartbeats 8000000

noncomputable section

namespace Cert.Proof.Emo

open Idealize.ShloMosaic Idealize.SL.Sem

/-- The two kernels' bodies are one text. -/
theorem defs₀_same : Cert.Kernel.defs₀ (F := Bits) = Cert.KernelIdeal.defs₀ (F := Bits) := rfl

/-- So are the whole programs' label tables. -/
theorem defs_same : Cert.Kernel.defs (F := Bits) = Cert.KernelIdeal.defs (F := Bits) :=
  congrArg (fun D => (Cert.KernelIdeal.sc (F := Bits)).defs (Pipeline.defs Cert.KernelIdeal.pcfgs D)) defs₀_same

/-- And what the processors run. -/
theorem threads_same : Cert.Kernel.threads (F := Bits) = Cert.KernelIdeal.threads (F := Bits) := rfl

/-- The kernel's run at the machine's bits, with its values. -/
theorem run_bits (m : (ℓ : Loc Cert.Kernel.nD Cert.Kernel.τ Cert.Kernel.sig) → Buf (Elt Bits) ℓ) (ρ : Dev Cert.Kernel.nD → PrngReg)
    (hm : IdsOk (F := Bits) m) :
    θ_run (Cert.Kernel.defs (F := Bits)) (Cert.Kernel.threads (F := Bits)) ⟨m, fun _ => 0, ρ⟩ (QC (F := Bits) m) := by
  rw [defs_same, threads_same]
  exact run_main (F := Bits) m ρ hm

end Cert.Proof.Emo

end
-- ==== Proof.lean ====
/-
  The proof of `Cert.Claim`. The kernel's run (Proof/Launch.lean) is proved once, over any float values; read at the extended
  reals and, through Proof/Same.lean, at the machine's bits it gives both frames and both value claims. The references' runs are
  their generated ones, and the values meet in Proof/Values.lean.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Gen.Pre_ids_in_range
public import proofs.«01_k».proof.Proof.Gen.ReferenceIdeal.Run
public import proofs.«01_k».proof.Proof.Gen.Reference.Run
public import proofs.«01_k».proof.Proof.Values
public import proofs.«01_k».proof.Proof.Same
public import Idealize.ShloMosaic.Adequacy
public import Idealize.ShloMosaic.Init

@[expose] public section

set_option maxRecDepth 16384

noncomputable section

namespace Cert.Proof

open Idealize.ShloMosaic Idealize.SL.Sem Cert.Proof.Emo

/-! ## The index words -/

/-- The precondition at the extended reals: every index word of every device is below 1000. -/
theorem idsOk_i (m : (ℓ : Loc Cert.KernelIdeal.nD Cert.KernelIdeal.τ Cert.KernelIdeal.sig) → Buf (Elt Ideal) ℓ)
    (h : Cert.Pre_KernelIdeal m) : IdsOk m := fun d j => ids_lt (F := Ideal) _ _ _ (h d) j

/-- The precondition at the machine's bits: likewise. -/
theorem idsOk_b (m : (ℓ : Loc Cert.Kernel.nD Cert.Kernel.τ Cert.Kernel.sig) → Buf (Elt Bits) ℓ)
    (h : Cert.Pre_Kernel m) : IdsOk (F := Bits) m := fun d j => ids_lt (F := Bits) _ _ _ (h d) j

/-! ## The frames -/

/-- The ideal kernel ends with its arguments unchanged and every counter at zero. -/
theorem frame_i : Cert.quiescent_KernelIdeal := fun m ρ h =>
  (θ_run Cert.KernelIdeal.defs _ _).mono (fun _ q => ⟨fun c => ⟨(q.1 c).1, (q.1 c).2.1, (q.1 c).2.2.1⟩, q.2⟩)
    (run_main (F := Ideal) m ρ (idsOk_i m h))

/-- The kernel, the same text at the machine's bits, likewise. -/
theorem frame_k : Cert.quiescent_Kernel := fun m ρ h =>
  (θ_run Cert.Kernel.defs _ _).mono (fun _ q => ⟨fun c => ⟨(q.1 c).1, (q.1 c).2.1, (q.1 c).2.2.1⟩, q.2⟩)
    (run_bits m ρ (idsOk_b m h))

/-- The ideal reference ends with its arguments unchanged; it has no semaphore. -/
theorem frame_ri : Cert.quiescent_ReferenceIdeal := fun m ρ _ =>
  (θ_run Cert.ReferenceIdeal.defs _ _).mono (fun r q => ⟨fun c => (q c).2.2, sem_eq_zero_of_no_sems (by decide) r.2⟩)
    (Cert.ReferenceIdeal.Value.run (F := Ideal) m ρ)

/-- The same under the precondition on the index words, which it does not need. -/
theorem frame_ri_pre : Cert.quiescent_ReferenceIdeal_pre_ids_in_range := fun m ρ _ =>
  (θ_run Cert.ReferenceIdeal.defs _ _).mono (fun r q => ⟨fun c => (q c).2.2, sem_eq_zero_of_no_sems (by decide) r.2⟩)
    (Cert.ReferenceIdeal.Value.run (F := Ideal) m ρ)

/-- The reference at the machine's bits likewise. -/
theorem frame_r : Cert.quiescent_Reference := fun m ρ _ =>
  (θ_run Cert.Reference.defs _ _).mono (fun r q => ⟨fun c => (q c).2.2, sem_eq_zero_of_no_sems (by decide) r.2⟩)
    (Cert.Reference.Value.run (F := Bits) m ρ)

/-! ## The values -/

/-- Over the extended reals kernel and reference end with the same two results: the slabs and the mask rows taken. -/
theorem algebraic : Cert.algebraic_KernelIdeal_ReferenceIdeal := by
  intro m ρ m' ρ' hpre hagree
  have hm := idsOk_i m hpre
  refine ⟨fun c => hidVal m c, fun c => resVal m c, ?_, ?_⟩
  · exact (θ_run Cert.KernelIdeal.defs _ _).mono
      (fun _ q c => ⟨(q.1 c).2.2.2.1, (q.1 c).2.2.2.2, (q.1 c).1, (q.1 c).2.1, (q.1 c).2.2.1⟩)
      (run_main (F := Ideal) m ρ hm)
  · refine (θ_run Cert.ReferenceIdeal.defs _ _).mono (fun _ q c => ⟨(q c).1.trans ?_, (q c).2.1.trans ?_, (q c).2.2⟩)
      (Cert.ReferenceIdeal.Value.run (F := Ideal) m' ρ')
    · rw [(hagree c).1, (hagree c).2.2]
      exact refSlabs_eq (hm c) _ _
    · rw [(hagree c).2.1, (hagree c).2.2]
      exact (refMasks_eq (hm c) _ _).trans (resVal_eq m c).symm

/-- At the machine's bits they end with the same two results too: gathers move words and compute nothing. -/
theorem bitexact : Cert.bitexact_Kernel_Reference := by
  intro m ρ m' ρ' hpre hagree
  have hm := idsOk_b m hpre
  refine ⟨fun c => hidVal (F := Bits) m c, fun c => resVal (F := Bits) m c, ?_, ?_⟩
  · exact (θ_run Cert.Kernel.defs _ _).mono
      (fun _ q c => ⟨(q.1 c).2.2.2.1, (q.1 c).2.2.2.2, (q.1 c).1, (q.1 c).2.1, (q.1 c).2.2.1⟩)
      (run_bits m ρ hm)
  · refine (θ_run Cert.Reference.defs _ _).mono (fun _ q c => ⟨(q c).1.trans ?_, (q c).2.1.trans ?_, (q c).2.2⟩)
      (Cert.Reference.Value.run (F := Bits) m' ρ')
    · rw [(hagree c).1, (hagree c).2.2]
      exact refSlabs_eq (hm c) _ _
    · rw [(hagree c).2.1, (hagree c).2.2]
      exact (refMasks_eq (hm c) _ _).trans (resVal_eq (F := Bits) m c).symm

/-- Every claim: the frames, the ideal program being the kernel's own text, and the two value claims. -/
theorem claim : Cert.Claim :=
  ⟨Cert.Kernel.Gen.facts, Cert.KernelIdeal.Gen.facts, Cert.ReferenceIdeal.Gen.facts, Cert.Reference.Gen.facts,
    Cert.Pre_ids_in_range.Gen.facts, frame_k, frame_i, frame_ri, frame_ri_pre, frame_r, trivial, algebraic, bitexact⟩

end Cert.Proof

end
